-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelQuery (m : (ℓ : Loc Cert.KernelQuery.nD Cert.KernelQuery.τ Cert.KernelQuery.sig) → Buf (Elt Bits) ℓ) : Prop :=
  True

def Pre_KernelQueryIdeal (m : (ℓ : Loc Cert.KernelQueryIdeal.nD Cert.KernelQueryIdeal.τ Cert.KernelQueryIdeal.sig) → Buf (Elt Ideal) ℓ) : Prop :=
  True

def Pre_ReferenceQueryIdeal (m : (ℓ : Loc Cert.ReferenceQueryIdeal.nD Cert.ReferenceQueryIdeal.τ Cert.ReferenceQueryIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelNext (m : (ℓ : Loc Cert.KernelNext.nD Cert.KernelNext.τ Cert.KernelNext.sig) → Buf (Elt Bits) ℓ) : Prop :=
  True

def Pre_KernelNextIdeal (m : (ℓ : Loc Cert.KernelNextIdeal.nD Cert.KernelNextIdeal.τ Cert.KernelNextIdeal.sig) → Buf (Elt Ideal) ℓ) : Prop :=
  True

def Pre_ReferenceNextIdeal (m : (ℓ : Loc Cert.ReferenceNextIdeal.nD Cert.ReferenceNextIdeal.τ Cert.ReferenceNextIdeal.sig) → Buf (Elt Ideal) ℓ) : Prop :=
  True

def Pre_KernelRows (m : (ℓ : Loc Cert.KernelRows.nD Cert.KernelRows.τ Cert.KernelRows.sig) → Buf (Elt Bits) ℓ) : Prop :=
  True

def Pre_KernelRowsIdeal (m : (ℓ : Loc Cert.KernelRowsIdeal.nD Cert.KernelRowsIdeal.τ Cert.KernelRowsIdeal.sig) → Buf (Elt Ideal) ℓ) : Prop :=
  True

def Pre_ReferenceRowsIdeal (m : (ℓ : Loc Cert.ReferenceRowsIdeal.nD Cert.ReferenceRowsIdeal.τ Cert.ReferenceRowsIdeal.sig) → Buf (Elt Ideal) ℓ) : Prop :=
  True

def Pre_KernelCond (m : (ℓ : Loc Cert.KernelCond.nD Cert.KernelCond.τ Cert.KernelCond.sig) → Buf (Elt Bits) ℓ) : Prop :=
  True

def Pre_KernelCondIdeal (m : (ℓ : Loc Cert.KernelCondIdeal.nD Cert.KernelCondIdeal.τ Cert.KernelCondIdeal.sig) → Buf (Elt Ideal) ℓ) : Prop :=
  True

def Pre_ReferenceCondIdeal (m : (ℓ : Loc Cert.ReferenceCondIdeal.nD Cert.ReferenceCondIdeal.τ Cert.ReferenceCondIdeal.sig) → Buf (Elt Ideal) ℓ) : Prop :=
  True

def Pre_KernelContext (m : (ℓ : Loc Cert.KernelContext.nD Cert.KernelContext.τ Cert.KernelContext.sig) → Buf (Elt Bits) ℓ) : Prop :=
  True

def Pre_KernelContextIdeal (m : (ℓ : Loc Cert.KernelContextIdeal.nD Cert.KernelContextIdeal.τ Cert.KernelContextIdeal.sig) → Buf (Elt Ideal) ℓ) : Prop :=
  True

def Pre_KernelContextIdeal_finite_context [hPre_finite_context : Cert.Pre_finite_context.Facts] (m : (ℓ : Loc Cert.KernelContextIdeal.nD Cert.KernelContextIdeal.τ Cert.KernelContextIdeal.sig) → Buf (Elt Ideal) ℓ) : Prop :=
  ∀ c : Dev Cert.KernelContextIdeal.nD,
    (Cert.Pre_finite_context.fn (F := Ideal) (m ((c.tc : Thread Cert.KernelContextIdeal.nD Cert.KernelContextIdeal.τ).loc Cert.KernelContextIdeal.main_arg0)) (m ((c.tc : Thread Cert.KernelContextIdeal.nD Cert.KernelContextIdeal.τ).loc Cert.KernelContextIdeal.main_arg1))) = (fun _ => 1#1)

def Pre_ReferenceContextIdeal (m : (ℓ : Loc Cert.ReferenceContextIdeal.nD Cert.ReferenceContextIdeal.τ Cert.ReferenceContextIdeal.sig) → Buf (Elt Ideal) ℓ) : Prop :=
  True

def Pre_ReferenceContextIdeal_finite_context [hPre_finite_context : Cert.Pre_finite_context.Facts] (m : (ℓ : Loc Cert.ReferenceContextIdeal.nD Cert.ReferenceContextIdeal.τ Cert.ReferenceContextIdeal.sig) → Buf (Elt Ideal) ℓ) : Prop :=
  ∀ c : Dev Cert.ReferenceContextIdeal.nD,
    (Cert.Pre_finite_context.fn (F := Ideal) (m ((c.tc : Thread Cert.ReferenceContextIdeal.nD Cert.ReferenceContextIdeal.τ).loc Cert.ReferenceContextIdeal.main_arg0)) (m ((c.tc : Thread Cert.ReferenceContextIdeal.nD Cert.ReferenceContextIdeal.τ).loc Cert.ReferenceContextIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelQuery [hKernelQuery : Cert.KernelQuery.Facts] : Prop :=
  ∀ (m : (ℓ : Loc Cert.KernelQuery.nD Cert.KernelQuery.τ Cert.KernelQuery.sig) → Buf (Elt Bits) ℓ) (g : Dev Cert.KernelQuery.nD → PrngReg), Pre_KernelQuery m →
    θ_run (Cert.KernelQuery.defs (F := Bits)) (onTc (τ := Cert.KernelQuery.τ) (Cert.KernelQuery.main (F := Bits))) ⟨m, fun _ => 0, g⟩ (fun r => (∀ c : Dev Cert.KernelQuery.nD,
      r.2.mem ((c.tc : Thread Cert.KernelQuery.nD Cert.KernelQuery.τ).loc Cert.KernelQuery.main_arg0) = m ((c.tc : Thread Cert.KernelQuery.nD Cert.KernelQuery.τ).loc Cert.KernelQuery.main_arg0)
      ∧ r.2.mem ((c.tc : Thread Cert.KernelQuery.nD Cert.KernelQuery.τ).loc Cert.KernelQuery.main_arg1) = m ((c.tc : Thread Cert.KernelQuery.nD Cert.KernelQuery.τ).loc Cert.KernelQuery.main_arg1))
      ∧ r.2.sem = fun _ => 0)

def quiescent_KernelQueryIdeal [hKernelQueryIdeal : Cert.KernelQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg), Pre_KernelQueryIdeal m →
    θ_run (Cert.KernelQueryIdeal.defs (F := Ideal)) (onTc (τ := Cert.KernelQueryIdeal.τ) (Cert.KernelQueryIdeal.main (F := Ideal))) ⟨m, fun _ => 0, g⟩ (fun r => (∀ c : Dev Cert.KernelQueryIdeal.nD,
      r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
      ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1))
      ∧ r.2.sem = fun _ => 0)

def quiescent_ReferenceQueryIdeal [hReferenceQueryIdeal : Cert.ReferenceQueryIdeal.Facts] : Prop :=
  ∀ (m : (ℓ : Loc Cert.ReferenceQueryIdeal.nD Cert.ReferenceQueryIdeal.τ Cert.ReferenceQueryIdeal.sig) → Buf (Elt Ideal) ℓ) (g : Dev Cert.ReferenceQueryIdeal.nD → PrngReg), Pre_ReferenceQueryIdeal m →
    θ_run (Cert.ReferenceQueryIdeal.defs (F := Ideal)) (onTc (τ := Cert.ReferenceQueryIdeal.τ) (Cert.ReferenceQueryIdeal.main (F := Ideal))) ⟨m, fun _ => 0, g⟩ (fun r => (∀ c : Dev Cert.ReferenceQueryIdeal.nD,
      r.2.mem ((c.tc : Thread Cert.ReferenceQueryIdeal.nD Cert.ReferenceQueryIdeal.τ).loc Cert.ReferenceQueryIdeal.main_arg0) = m ((c.tc : Thread Cert.ReferenceQueryIdeal.nD Cert.ReferenceQueryIdeal.τ).loc Cert.ReferenceQueryIdeal.main_arg0)
      ∧ r.2.mem ((c.tc : Thread Cert.ReferenceQueryIdeal.nD Cert.ReferenceQueryIdeal.τ).loc Cert.ReferenceQueryIdeal.main_arg1) = m ((c.tc : Thread Cert.ReferenceQueryIdeal.nD Cert.ReferenceQueryIdeal.τ).loc Cert.ReferenceQueryIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3)
      ∧ r.2.mem ((c.tc : Thread Cert.KernelNorm.nD Cert.KernelNorm.τ).loc Cert.KernelNorm.main_arg4) = m ((c.tc : Thread Cert.KernelNorm.nD Cert.KernelNorm.τ).loc Cert.KernelNorm.main_arg4))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4))
      ∧ r.2.sem = fun _ => 0)

def quiescent_KernelNext [hKernelNext : Cert.KernelNext.Facts] : Prop :=
  ∀ (m : (ℓ : Loc Cert.KernelNext.nD Cert.KernelNext.τ Cert.KernelNext.sig) → Buf (Elt Bits) ℓ) (g : Dev Cert.KernelNext.nD → PrngReg), Pre_KernelNext m →
    θ_run (Cert.KernelNext.defs (F := Bits)) (onTc (τ := Cert.KernelNext.τ) (Cert.KernelNext.main (F := Bits))) ⟨m, fun _ => 0, g⟩ (fun r => (∀ c : Dev Cert.KernelNext.nD,
      r.2.mem ((c.tc : Thread Cert.KernelNext.nD Cert.KernelNext.τ).loc Cert.KernelNext.main_arg0) = m ((c.tc : Thread Cert.KernelNext.nD Cert.KernelNext.τ).loc Cert.KernelNext.main_arg0)
      ∧ r.2.mem ((c.tc : Thread Cert.KernelNext.nD Cert.KernelNext.τ).loc Cert.KernelNext.main_arg1) = m ((c.tc : Thread Cert.KernelNext.nD Cert.KernelNext.τ).loc Cert.KernelNext.main_arg1)
      ∧ r.2.mem ((c.tc : Thread Cert.KernelNext.nD Cert.KernelNext.τ).loc Cert.KernelNext.main_arg2) = m ((c.tc : Thread Cert.KernelNext.nD Cert.KernelNext.τ).loc Cert.KernelNext.main_arg2)
      ∧ r.2.mem ((c.tc : Thread Cert.KernelNext.nD Cert.KernelNext.τ).loc Cert.KernelNext.main_arg3) = m ((c.tc : Thread Cert.KernelNext.nD Cert.KernelNext.τ).loc Cert.KernelNext.main_arg3)
      ∧ r.2.mem ((c.tc : Thread Cert.KernelNext.nD Cert.KernelNext.τ).loc Cert.KernelNext.main_arg4) = m ((c.tc : Thread Cert.KernelNext.nD Cert.KernelNext.τ).loc Cert.KernelNext.main_arg4))
      ∧ r.2.sem = fun _ => 0)

def quiescent_KernelNextIdeal [hKernelNextIdeal : Cert.KernelNextIdeal.Facts] : Prop :=
  ∀ (m : (ℓ : Loc Cert.KernelNextIdeal.nD Cert.KernelNextIdeal.τ Cert.KernelNextIdeal.sig) → Buf (Elt Ideal) ℓ) (g : Dev Cert.KernelNextIdeal.nD → PrngReg), Pre_KernelNextIdeal m →
    θ_run (Cert.KernelNextIdeal.defs (F := Ideal)) (onTc (τ := Cert.KernelNextIdeal.τ) (Cert.KernelNextIdeal.main (F := Ideal))) ⟨m, fun _ => 0, g⟩ (fun r => (∀ c : Dev Cert.KernelNextIdeal.nD,
      r.2.mem ((c.tc : Thread Cert.KernelNextIdeal.nD Cert.KernelNextIdeal.τ).loc Cert.KernelNextIdeal.main_arg0) = m ((c.tc : Thread Cert.KernelNextIdeal.nD Cert.KernelNextIdeal.τ).loc Cert.KernelNextIdeal.main_arg0)
      ∧ r.2.mem ((c.tc : Thread Cert.KernelNextIdeal.nD Cert.KernelNextIdeal.τ).loc Cert.KernelNextIdeal.main_arg1) = m ((c.tc : Thread Cert.KernelNextIdeal.nD Cert.KernelNextIdeal.τ).loc Cert.KernelNextIdeal.main_arg1)
      ∧ r.2.mem ((c.tc : Thread Cert.KernelNextIdeal.nD Cert.KernelNextIdeal.τ).loc Cert.KernelNextIdeal.main_arg2) = m ((c.tc : Thread Cert.KernelNextIdeal.nD Cert.KernelNextIdeal.τ).loc Cert.KernelNextIdeal.main_arg2)
      ∧ r.2.mem ((c.tc : Thread Cert.KernelNextIdeal.nD Cert.KernelNextIdeal.τ).loc Cert.KernelNextIdeal.main_arg3) = m ((c.tc : Thread Cert.KernelNextIdeal.nD Cert.KernelNextIdeal.τ).loc Cert.KernelNextIdeal.main_arg3)
      ∧ r.2.mem ((c.tc : Thread Cert.KernelNextIdeal.nD Cert.KernelNextIdeal.τ).loc Cert.KernelNextIdeal.main_arg4) = m ((c.tc : Thread Cert.KernelNextIdeal.nD Cert.KernelNextIdeal.τ).loc Cert.KernelNextIdeal.main_arg4))
      ∧ r.2.sem = fun _ => 0)

def quiescent_ReferenceNextIdeal [hReferenceNextIdeal : Cert.ReferenceNextIdeal.Facts] : Prop :=
  ∀ (m : (ℓ : Loc Cert.ReferenceNextIdeal.nD Cert.ReferenceNextIdeal.τ Cert.ReferenceNextIdeal.sig) → Buf (Elt Ideal) ℓ) (g : Dev Cert.ReferenceNextIdeal.nD → PrngReg), Pre_ReferenceNextIdeal m →
    θ_run (Cert.ReferenceNextIdeal.defs (F := Ideal)) (onTc (τ := Cert.ReferenceNextIdeal.τ) (Cert.ReferenceNextIdeal.main (F := Ideal))) ⟨m, fun _ => 0, g⟩ (fun r => (∀ c : Dev Cert.ReferenceNextIdeal.nD,
      r.2.mem ((c.tc : Thread Cert.ReferenceNextIdeal.nD Cert.ReferenceNextIdeal.τ).loc Cert.ReferenceNextIdeal.main_arg0) = m ((c.tc : Thread Cert.ReferenceNextIdeal.nD Cert.ReferenceNextIdeal.τ).loc Cert.ReferenceNextIdeal.main_arg0)
      ∧ r.2.mem ((c.tc : Thread Cert.ReferenceNextIdeal.nD Cert.ReferenceNextIdeal.τ).loc Cert.ReferenceNextIdeal.main_arg1) = m ((c.tc : Thread Cert.ReferenceNextIdeal.nD Cert.ReferenceNextIdeal.τ).loc Cert.ReferenceNextIdeal.main_arg1)
      ∧ r.2.mem ((c.tc : Thread Cert.ReferenceNextIdeal.nD Cert.ReferenceNextIdeal.τ).loc Cert.ReferenceNextIdeal.main_arg2) = m ((c.tc : Thread Cert.ReferenceNextIdeal.nD Cert.ReferenceNextIdeal.τ).loc Cert.ReferenceNextIdeal.main_arg2)
      ∧ r.2.mem ((c.tc : Thread Cert.ReferenceNextIdeal.nD Cert.ReferenceNextIdeal.τ).loc Cert.ReferenceNextIdeal.main_arg3) = m ((c.tc : Thread Cert.ReferenceNextIdeal.nD Cert.ReferenceNextIdeal.τ).loc Cert.ReferenceNextIdeal.main_arg3)
      ∧ r.2.mem ((c.tc : Thread Cert.ReferenceNextIdeal.nD Cert.ReferenceNextIdeal.τ).loc Cert.ReferenceNextIdeal.main_arg4) = m ((c.tc : Thread Cert.ReferenceNextIdeal.nD Cert.ReferenceNextIdeal.τ).loc Cert.ReferenceNextIdeal.main_arg4))
      ∧ r.2.sem = fun _ => 0)

def quiescent_KernelRows [hKernelRows : Cert.KernelRows.Facts] : Prop :=
  ∀ (m : (ℓ : Loc Cert.KernelRows.nD Cert.KernelRows.τ Cert.KernelRows.sig) → Buf (Elt Bits) ℓ) (g : Dev Cert.KernelRows.nD → PrngReg), Pre_KernelRows m →
    θ_run (Cert.KernelRows.defs (F := Bits)) (onTc (τ := Cert.KernelRows.τ) (Cert.KernelRows.main (F := Bits))) ⟨m, fun _ => 0, g⟩ (fun r => (∀ c : Dev Cert.KernelRows.nD,
      r.2.mem ((c.tc : Thread Cert.KernelRows.nD Cert.KernelRows.τ).loc Cert.KernelRows.main_arg0) = m ((c.tc : Thread Cert.KernelRows.nD Cert.KernelRows.τ).loc Cert.KernelRows.main_arg0)
      ∧ r.2.mem ((c.tc : Thread Cert.KernelRows.nD Cert.KernelRows.τ).loc Cert.KernelRows.main_arg1) = m ((c.tc : Thread Cert.KernelRows.nD Cert.KernelRows.τ).loc Cert.KernelRows.main_arg1))
      ∧ r.2.sem = fun _ => 0)

def quiescent_KernelRowsIdeal [hKernelRowsIdeal : Cert.KernelRowsIdeal.Facts] : Prop :=
  ∀ (m : (ℓ : Loc Cert.KernelRowsIdeal.nD Cert.KernelRowsIdeal.τ Cert.KernelRowsIdeal.sig) → Buf (Elt Ideal) ℓ) (g : Dev Cert.KernelRowsIdeal.nD → PrngReg), Pre_KernelRowsIdeal m →
    θ_run (Cert.KernelRowsIdeal.defs (F := Ideal)) (onTc (τ := Cert.KernelRowsIdeal.τ) (Cert.KernelRowsIdeal.main (F := Ideal))) ⟨m, fun _ => 0, g⟩ (fun r => (∀ c : Dev Cert.KernelRowsIdeal.nD,
      r.2.mem ((c.tc : Thread Cert.KernelRowsIdeal.nD Cert.KernelRowsIdeal.τ).loc Cert.KernelRowsIdeal.main_arg0) = m ((c.tc : Thread Cert.KernelRowsIdeal.nD Cert.KernelRowsIdeal.τ).loc Cert.KernelRowsIdeal.main_arg0)
      ∧ r.2.mem ((c.tc : Thread Cert.KernelRowsIdeal.nD Cert.KernelRowsIdeal.τ).loc Cert.KernelRowsIdeal.main_arg1) = m ((c.tc : Thread Cert.KernelRowsIdeal.nD Cert.KernelRowsIdeal.τ).loc Cert.KernelRowsIdeal.main_arg1))
      ∧ r.2.sem = fun _ => 0)

def quiescent_ReferenceRowsIdeal [hReferenceRowsIdeal : Cert.ReferenceRowsIdeal.Facts] : Prop :=
  ∀ (m : (ℓ : Loc Cert.ReferenceRowsIdeal.nD Cert.ReferenceRowsIdeal.τ Cert.ReferenceRowsIdeal.sig) → Buf (Elt Ideal) ℓ) (g : Dev Cert.ReferenceRowsIdeal.nD → PrngReg), Pre_ReferenceRowsIdeal m →
    θ_run (Cert.ReferenceRowsIdeal.defs (F := Ideal)) (onTc (τ := Cert.ReferenceRowsIdeal.τ) (Cert.ReferenceRowsIdeal.main (F := Ideal))) ⟨m, fun _ => 0, g⟩ (fun r => (∀ c : Dev Cert.ReferenceRowsIdeal.nD,
      r.2.mem ((c.tc : Thread Cert.ReferenceRowsIdeal.nD Cert.ReferenceRowsIdeal.τ).loc Cert.ReferenceRowsIdeal.main_arg0) = m ((c.tc : Thread Cert.ReferenceRowsIdeal.nD Cert.ReferenceRowsIdeal.τ).loc Cert.ReferenceRowsIdeal.main_arg0)
      ∧ r.2.mem ((c.tc : Thread Cert.ReferenceRowsIdeal.nD Cert.ReferenceRowsIdeal.τ).loc Cert.ReferenceRowsIdeal.main_arg1) = m ((c.tc : Thread Cert.ReferenceRowsIdeal.nD Cert.ReferenceRowsIdeal.τ).loc Cert.ReferenceRowsIdeal.main_arg1))
      ∧ r.2.sem = fun _ => 0)

def quiescent_KernelCond [hKernelCond : Cert.KernelCond.Facts] : Prop :=
  ∀ (m : (ℓ : Loc Cert.KernelCond.nD Cert.KernelCond.τ Cert.KernelCond.sig) → Buf (Elt Bits) ℓ) (g : Dev Cert.KernelCond.nD → PrngReg), Pre_KernelCond m →
    θ_run (Cert.KernelCond.defs (F := Bits)) (onTc (τ := Cert.KernelCond.τ) (Cert.KernelCond.main (F := Bits))) ⟨m, fun _ => 0, g⟩ (fun r => (∀ c : Dev Cert.KernelCond.nD,
      r.2.mem ((c.tc : Thread Cert.KernelCond.nD Cert.KernelCond.τ).loc Cert.KernelCond.main_arg0) = m ((c.tc : Thread Cert.KernelCond.nD Cert.KernelCond.τ).loc Cert.KernelCond.main_arg0)
      ∧ r.2.mem ((c.tc : Thread Cert.KernelCond.nD Cert.KernelCond.τ).loc Cert.KernelCond.main_arg1) = m ((c.tc : Thread Cert.KernelCond.nD Cert.KernelCond.τ).loc Cert.KernelCond.main_arg1)
      ∧ r.2.mem ((c.tc : Thread Cert.KernelCond.nD Cert.KernelCond.τ).loc Cert.KernelCond.main_arg2) = m ((c.tc : Thread Cert.KernelCond.nD Cert.KernelCond.τ).loc Cert.KernelCond.main_arg2))
      ∧ r.2.sem = fun _ => 0)

def quiescent_KernelCondIdeal [hKernelCondIdeal : Cert.KernelCondIdeal.Facts] : Prop :=
  ∀ (m : (ℓ : Loc Cert.KernelCondIdeal.nD Cert.KernelCondIdeal.τ Cert.KernelCondIdeal.sig) → Buf (Elt Ideal) ℓ) (g : Dev Cert.KernelCondIdeal.nD → PrngReg), Pre_KernelCondIdeal m →
    θ_run (Cert.KernelCondIdeal.defs (F := Ideal)) (onTc (τ := Cert.KernelCondIdeal.τ) (Cert.KernelCondIdeal.main (F := Ideal))) ⟨m, fun _ => 0, g⟩ (fun r => (∀ c : Dev Cert.KernelCondIdeal.nD,
      r.2.mem ((c.tc : Thread Cert.KernelCondIdeal.nD Cert.KernelCondIdeal.τ).loc Cert.KernelCondIdeal.main_arg0) = m ((c.tc : Thread Cert.KernelCondIdeal.nD Cert.KernelCondIdeal.τ).loc Cert.KernelCondIdeal.main_arg0)
      ∧ r.2.mem ((c.tc : Thread Cert.KernelCondIdeal.nD Cert.KernelCondIdeal.τ).loc Cert.KernelCondIdeal.main_arg1) = m ((c.tc : Thread Cert.KernelCondIdeal.nD Cert.KernelCondIdeal.τ).loc Cert.KernelCondIdeal.main_arg1)
      ∧ r.2.mem ((c.tc : Thread Cert.KernelCondIdeal.nD Cert.KernelCondIdeal.τ).loc Cert.KernelCondIdeal.main_arg2) = m ((c.tc : Thread Cert.KernelCondIdeal.nD Cert.KernelCondIdeal.τ).loc Cert.KernelCondIdeal.main_arg2))
      ∧ r.2.sem = fun _ => 0)

def quiescent_ReferenceCondIdeal [hReferenceCondIdeal : Cert.ReferenceCondIdeal.Facts] : Prop :=
  ∀ (m : (ℓ : Loc Cert.ReferenceCondIdeal.nD Cert.ReferenceCondIdeal.τ Cert.ReferenceCondIdeal.sig) → Buf (Elt Ideal) ℓ) (g : Dev Cert.ReferenceCondIdeal.nD → PrngReg), Pre_ReferenceCondIdeal m →
    θ_run (Cert.ReferenceCondIdeal.defs (F := Ideal)) (onTc (τ := Cert.ReferenceCondIdeal.τ) (Cert.ReferenceCondIdeal.main (F := Ideal))) ⟨m, fun _ => 0, g⟩ (fun r => (∀ c : Dev Cert.ReferenceCondIdeal.nD,
      r.2.mem ((c.tc : Thread Cert.ReferenceCondIdeal.nD Cert.ReferenceCondIdeal.τ).loc Cert.ReferenceCondIdeal.main_arg0) = m ((c.tc : Thread Cert.ReferenceCondIdeal.nD Cert.ReferenceCondIdeal.τ).loc Cert.ReferenceCondIdeal.main_arg0)
      ∧ r.2.mem ((c.tc : Thread Cert.ReferenceCondIdeal.nD Cert.ReferenceCondIdeal.τ).loc Cert.ReferenceCondIdeal.main_arg1) = m ((c.tc : Thread Cert.ReferenceCondIdeal.nD Cert.ReferenceCondIdeal.τ).loc Cert.ReferenceCondIdeal.main_arg1)
      ∧ r.2.mem ((c.tc : Thread Cert.ReferenceCondIdeal.nD Cert.ReferenceCondIdeal.τ).loc Cert.ReferenceCondIdeal.main_arg2) = m ((c.tc : Thread Cert.ReferenceCondIdeal.nD Cert.ReferenceCondIdeal.τ).loc Cert.ReferenceCondIdeal.main_arg2))
      ∧ r.2.sem = fun _ => 0)

def quiescent_KernelContext [hKernelContext : Cert.KernelContext.Facts] : Prop :=
  ∀ (m : (ℓ : Loc Cert.KernelContext.nD Cert.KernelContext.τ Cert.KernelContext.sig) → Buf (Elt Bits) ℓ) (g : Dev Cert.KernelContext.nD → PrngReg), Pre_KernelContext m →
    θ_run (Cert.KernelContext.defs (F := Bits)) (onTc (τ := Cert.KernelContext.τ) (Cert.KernelContext.main (F := Bits))) ⟨m, fun _ => 0, g⟩ (fun r => (∀ c : Dev Cert.KernelContext.nD,
      r.2.mem ((c.tc : Thread Cert.KernelContext.nD Cert.KernelContext.τ).loc Cert.KernelContext.main_arg0) = m ((c.tc : Thread Cert.KernelContext.nD Cert.KernelContext.τ).loc Cert.KernelContext.main_arg0)
      ∧ r.2.mem ((c.tc : Thread Cert.KernelContext.nD Cert.KernelContext.τ).loc Cert.KernelContext.main_arg1) = m ((c.tc : Thread Cert.KernelContext.nD Cert.KernelContext.τ).loc Cert.KernelContext.main_arg1))
      ∧ r.2.sem = fun _ => 0)

def quiescent_KernelContextIdeal [hKernelContextIdeal : Cert.KernelContextIdeal.Facts] : Prop :=
  ∀ (m : (ℓ : Loc Cert.KernelContextIdeal.nD Cert.KernelContextIdeal.τ Cert.KernelContextIdeal.sig) → Buf (Elt Ideal) ℓ) (g : Dev Cert.KernelContextIdeal.nD → PrngReg), Pre_KernelContextIdeal m →
    θ_run (Cert.KernelContextIdeal.defs (F := Ideal)) (onTc (τ := Cert.KernelContextIdeal.τ) (Cert.KernelContextIdeal.main (F := Ideal))) ⟨m, fun _ => 0, g⟩ (fun r => (∀ c : Dev Cert.KernelContextIdeal.nD,
      r.2.mem ((c.tc : Thread Cert.KernelContextIdeal.nD Cert.KernelContextIdeal.τ).loc Cert.KernelContextIdeal.main_arg0) = m ((c.tc : Thread Cert.KernelContextIdeal.nD Cert.KernelContextIdeal.τ).loc Cert.KernelContextIdeal.main_arg0)
      ∧ r.2.mem ((c.tc : Thread Cert.KernelContextIdeal.nD Cert.KernelContextIdeal.τ).loc Cert.KernelContextIdeal.main_arg1) = m ((c.tc : Thread Cert.KernelContextIdeal.nD Cert.KernelContextIdeal.τ).loc Cert.KernelContextIdeal.main_arg1))
      ∧ r.2.sem = fun _ => 0)

def quiescent_KernelContextIdeal_pre_finite_context [hKernelContextIdeal : Cert.KernelContextIdeal.Facts] [hPre_finite_context : Cert.Pre_finite_context.Facts] : Prop :=
  ∀ (m : (ℓ : Loc Cert.KernelContextIdeal.nD Cert.KernelContextIdeal.τ Cert.KernelContextIdeal.sig) → Buf (Elt Ideal) ℓ) (g : Dev Cert.KernelContextIdeal.nD → PrngReg), Pre_KernelContextIdeal_finite_context m →
    θ_run (Cert.KernelContextIdeal.defs (F := Ideal)) (onTc (τ := Cert.KernelContextIdeal.τ) (Cert.KernelContextIdeal.main (F := Ideal))) ⟨m, fun _ => 0, g⟩ (fun r => (∀ c : Dev Cert.KernelContextIdeal.nD,
      r.2.mem ((c.tc : Thread Cert.KernelContextIdeal.nD Cert.KernelContextIdeal.τ).loc Cert.KernelContextIdeal.main_arg0) = m ((c.tc : Thread Cert.KernelContextIdeal.nD Cert.KernelContextIdeal.τ).loc Cert.KernelContextIdeal.main_arg0)
      ∧ r.2.mem ((c.tc : Thread Cert.KernelContextIdeal.nD Cert.KernelContextIdeal.τ).loc Cert.KernelContextIdeal.main_arg1) = m ((c.tc : Thread Cert.KernelContextIdeal.nD Cert.KernelContextIdeal.τ).loc Cert.KernelContextIdeal.main_arg1))
      ∧ r.2.sem = fun _ => 0)

def quiescent_ReferenceContextIdeal [hReferenceContextIdeal : Cert.ReferenceContextIdeal.Facts] : Prop :=
  ∀ (m : (ℓ : Loc Cert.ReferenceContextIdeal.nD Cert.ReferenceContextIdeal.τ Cert.ReferenceContextIdeal.sig) → Buf (Elt Ideal) ℓ) (g : Dev Cert.ReferenceContextIdeal.nD → PrngReg), Pre_ReferenceContextIdeal m →
    θ_run (Cert.ReferenceContextIdeal.defs (F := Ideal)) (onTc (τ := Cert.ReferenceContextIdeal.τ) (Cert.ReferenceContextIdeal.main (F := Ideal))) ⟨m, fun _ => 0, g⟩ (fun r => (∀ c : Dev Cert.ReferenceContextIdeal.nD,
      r.2.mem ((c.tc : Thread Cert.ReferenceContextIdeal.nD Cert.ReferenceContextIdeal.τ).loc Cert.ReferenceContextIdeal.main_arg0) = m ((c.tc : Thread Cert.ReferenceContextIdeal.nD Cert.ReferenceContextIdeal.τ).loc Cert.ReferenceContextIdeal.main_arg0)
      ∧ r.2.mem ((c.tc : Thread Cert.ReferenceContextIdeal.nD Cert.ReferenceContextIdeal.τ).loc Cert.ReferenceContextIdeal.main_arg1) = m ((c.tc : Thread Cert.ReferenceContextIdeal.nD Cert.ReferenceContextIdeal.τ).loc Cert.ReferenceContextIdeal.main_arg1))
      ∧ r.2.sem = fun _ => 0)

def quiescent_ReferenceContextIdeal_pre_finite_context [hReferenceContextIdeal : Cert.ReferenceContextIdeal.Facts] [hPre_finite_context : Cert.Pre_finite_context.Facts] : Prop :=
  ∀ (m : (ℓ : Loc Cert.ReferenceContextIdeal.nD Cert.ReferenceContextIdeal.τ Cert.ReferenceContextIdeal.sig) → Buf (Elt Ideal) ℓ) (g : Dev Cert.ReferenceContextIdeal.nD → PrngReg), Pre_ReferenceContextIdeal_finite_context m →
    θ_run (Cert.ReferenceContextIdeal.defs (F := Ideal)) (onTc (τ := Cert.ReferenceContextIdeal.τ) (Cert.ReferenceContextIdeal.main (F := Ideal))) ⟨m, fun _ => 0, g⟩ (fun r => (∀ c : Dev Cert.ReferenceContextIdeal.nD,
      r.2.mem ((c.tc : Thread Cert.ReferenceContextIdeal.nD Cert.ReferenceContextIdeal.τ).loc Cert.ReferenceContextIdeal.main_arg0) = m ((c.tc : Thread Cert.ReferenceContextIdeal.nD Cert.ReferenceContextIdeal.τ).loc Cert.ReferenceContextIdeal.main_arg0)
      ∧ r.2.mem ((c.tc : Thread Cert.ReferenceContextIdeal.nD Cert.ReferenceContextIdeal.τ).loc Cert.ReferenceContextIdeal.main_arg1) = m ((c.tc : Thread Cert.ReferenceContextIdeal.nD Cert.ReferenceContextIdeal.τ).loc Cert.ReferenceContextIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v1) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v1) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v16) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelQuery_KernelQueryIdeal : Prop :=
  True

def algebraic_KernelQueryIdeal_ReferenceQueryIdeal [hKernelQueryIdeal : Cert.KernelQueryIdeal.Facts] [hReferenceQueryIdeal : Cert.ReferenceQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg)
    (m' : (ℓ : Loc Cert.ReferenceQueryIdeal.nD Cert.ReferenceQueryIdeal.τ Cert.ReferenceQueryIdeal.sig) → Buf (Elt Ideal) ℓ) (g' : Dev Cert.ReferenceQueryIdeal.nD → PrngReg), Pre_KernelQueryIdeal m →
    (∀ c : Dev Cert.KernelQueryIdeal.nD,
      m' ((c.tc : Thread Cert.ReferenceQueryIdeal.nD Cert.ReferenceQueryIdeal.τ).loc Cert.ReferenceQueryIdeal.main_arg0) = m ((c.tc : Thread Cert.KernelQueryIdeal.nD Cert.KernelQueryIdeal.τ).loc Cert.KernelQueryIdeal.main_arg0)
      ∧ m' ((c.tc : Thread Cert.ReferenceQueryIdeal.nD Cert.ReferenceQueryIdeal.τ).loc Cert.ReferenceQueryIdeal.main_arg1) = m ((c.tc : Thread Cert.KernelQueryIdeal.nD Cert.KernelQueryIdeal.τ).loc Cert.KernelQueryIdeal.main_arg1)) →
    ∃ (v0 : (c : Dev Cert.KernelQueryIdeal.nD) → Buf (Elt Ideal) ((c.tc : Thread Cert.KernelQueryIdeal.nD Cert.KernelQueryIdeal.τ).loc Cert.KernelQueryIdeal.main_v1)),
      θ_run (Cert.KernelQueryIdeal.defs (F := Ideal)) (onTc (τ := Cert.KernelQueryIdeal.τ) (Cert.KernelQueryIdeal.main (F := Ideal))) ⟨m, fun _ => 0, g⟩ (fun r => ∀ c : Dev Cert.KernelQueryIdeal.nD,
          r.2.mem ((c.tc : Thread Cert.KernelQueryIdeal.nD Cert.KernelQueryIdeal.τ).loc Cert.KernelQueryIdeal.main_v1) = v0 c
          ∧ r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
          ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1))
      ∧ θ_run (Cert.ReferenceQueryIdeal.defs (F := Ideal)) (onTc (τ := Cert.ReferenceQueryIdeal.τ) (Cert.ReferenceQueryIdeal.main (F := Ideal))) ⟨m', fun _ => 0, g'⟩ (fun r => ∀ c : Dev Cert.ReferenceQueryIdeal.nD,
          r.2.mem ((c.tc : Thread Cert.ReferenceQueryIdeal.nD Cert.ReferenceQueryIdeal.τ).loc Cert.ReferenceQueryIdeal.main_v2) = v0 c
          ∧ r.2.mem ((c.tc : Thread Cert.ReferenceQueryIdeal.nD Cert.ReferenceQueryIdeal.τ).loc Cert.ReferenceQueryIdeal.main_arg0) = m' ((c.tc : Thread Cert.ReferenceQueryIdeal.nD Cert.ReferenceQueryIdeal.τ).loc Cert.ReferenceQueryIdeal.main_arg0)
          ∧ r.2.mem ((c.tc : Thread Cert.ReferenceQueryIdeal.nD Cert.ReferenceQueryIdeal.τ).loc Cert.ReferenceQueryIdeal.main_arg1) = m' ((c.tc : Thread Cert.ReferenceQueryIdeal.nD Cert.ReferenceQueryIdeal.τ).loc Cert.ReferenceQueryIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)
      ∧ m' ((c.tc : Thread Cert.ReferenceNormIdeal.nD Cert.ReferenceNormIdeal.τ).loc Cert.ReferenceNormIdeal.main_arg4) = m ((c.tc : Thread Cert.KernelNormIdeal.nD Cert.KernelNormIdeal.τ).loc Cert.KernelNormIdeal.main_arg4)) →
    ∃ (v0 : (c : Dev Cert.KernelNormIdeal.nD) → Buf (Elt Ideal) ((c.tc : Thread Cert.KernelNormIdeal.nD Cert.KernelNormIdeal.τ).loc Cert.KernelNormIdeal.main_v3)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v3) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
          ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v33) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3)
          ∧ r.2.mem ((c.tc : Thread Cert.ReferenceNormIdeal.nD Cert.ReferenceNormIdeal.τ).loc Cert.ReferenceNormIdeal.main_arg4) = m' ((c.tc : Thread Cert.ReferenceNormIdeal.nD Cert.ReferenceNormIdeal.τ).loc Cert.ReferenceNormIdeal.main_arg4))

def preserves_KernelNext_KernelNextIdeal : Prop :=
  True

def algebraic_KernelNextIdeal_ReferenceNextIdeal [hKernelNextIdeal : Cert.KernelNextIdeal.Facts] [hReferenceNextIdeal : Cert.ReferenceNextIdeal.Facts] : Prop :=
  ∀ (m : (ℓ : Loc Cert.KernelNextIdeal.nD Cert.KernelNextIdeal.τ Cert.KernelNextIdeal.sig) → Buf (Elt Ideal) ℓ) (g : Dev Cert.KernelNextIdeal.nD → PrngReg)
    (m' : (ℓ : Loc Cert.ReferenceNextIdeal.nD Cert.ReferenceNextIdeal.τ Cert.ReferenceNextIdeal.sig) → Buf (Elt Ideal) ℓ) (g' : Dev Cert.ReferenceNextIdeal.nD → PrngReg), Pre_KernelNextIdeal m →
    (∀ c : Dev Cert.KernelNextIdeal.nD,
      m' ((c.tc : Thread Cert.ReferenceNextIdeal.nD Cert.ReferenceNextIdeal.τ).loc Cert.ReferenceNextIdeal.main_arg0) = m ((c.tc : Thread Cert.KernelNextIdeal.nD Cert.KernelNextIdeal.τ).loc Cert.KernelNextIdeal.main_arg0)
      ∧ m' ((c.tc : Thread Cert.ReferenceNextIdeal.nD Cert.ReferenceNextIdeal.τ).loc Cert.ReferenceNextIdeal.main_arg1) = m ((c.tc : Thread Cert.KernelNextIdeal.nD Cert.KernelNextIdeal.τ).loc Cert.KernelNextIdeal.main_arg1)
      ∧ m' ((c.tc : Thread Cert.ReferenceNextIdeal.nD Cert.ReferenceNextIdeal.τ).loc Cert.ReferenceNextIdeal.main_arg2) = m ((c.tc : Thread Cert.KernelNextIdeal.nD Cert.KernelNextIdeal.τ).loc Cert.KernelNextIdeal.main_arg2)
      ∧ m' ((c.tc : Thread Cert.ReferenceNextIdeal.nD Cert.ReferenceNextIdeal.τ).loc Cert.ReferenceNextIdeal.main_arg3) = m ((c.tc : Thread Cert.KernelNextIdeal.nD Cert.KernelNextIdeal.τ).loc Cert.KernelNextIdeal.main_arg3)
      ∧ m' ((c.tc : Thread Cert.ReferenceNextIdeal.nD Cert.ReferenceNextIdeal.τ).loc Cert.ReferenceNextIdeal.main_arg4) = m ((c.tc : Thread Cert.KernelNextIdeal.nD Cert.KernelNextIdeal.τ).loc Cert.KernelNextIdeal.main_arg4)) →
    ∃ (v0 : (c : Dev Cert.KernelNextIdeal.nD) → Buf (Elt Ideal) ((c.tc : Thread Cert.KernelNextIdeal.nD Cert.KernelNextIdeal.τ).loc Cert.KernelNextIdeal.main_v2_0)) (v1 : (c : Dev Cert.KernelNextIdeal.nD) → Buf (Elt Ideal) ((c.tc : Thread Cert.KernelNextIdeal.nD Cert.KernelNextIdeal.τ).loc Cert.KernelNextIdeal.main_v2_1)),
      θ_run (Cert.KernelNextIdeal.defs (F := Ideal)) (onTc (τ := Cert.KernelNextIdeal.τ) (Cert.KernelNextIdeal.main (F := Ideal))) ⟨m, fun _ => 0, g⟩ (fun r => ∀ c : Dev Cert.KernelNextIdeal.nD,
          r.2.mem ((c.tc : Thread Cert.KernelNextIdeal.nD Cert.KernelNextIdeal.τ).loc Cert.KernelNextIdeal.main_v2_0) = v0 c
          ∧ r.2.mem ((c.tc : Thread Cert.KernelNextIdeal.nD Cert.KernelNextIdeal.τ).loc Cert.KernelNextIdeal.main_v2_1) = v1 c
          ∧ r.2.mem ((c.tc : Thread Cert.KernelNextIdeal.nD Cert.KernelNextIdeal.τ).loc Cert.KernelNextIdeal.main_arg0) = m ((c.tc : Thread Cert.KernelNextIdeal.nD Cert.KernelNextIdeal.τ).loc Cert.KernelNextIdeal.main_arg0)
          ∧ r.2.mem ((c.tc : Thread Cert.KernelNextIdeal.nD Cert.KernelNextIdeal.τ).loc Cert.KernelNextIdeal.main_arg1) = m ((c.tc : Thread Cert.KernelNextIdeal.nD Cert.KernelNextIdeal.τ).loc Cert.KernelNextIdeal.main_arg1)
          ∧ r.2.mem ((c.tc : Thread Cert.KernelNextIdeal.nD Cert.KernelNextIdeal.τ).loc Cert.KernelNextIdeal.main_arg2) = m ((c.tc : Thread Cert.KernelNextIdeal.nD Cert.KernelNextIdeal.τ).loc Cert.KernelNextIdeal.main_arg2)
          ∧ r.2.mem ((c.tc : Thread Cert.KernelNextIdeal.nD Cert.KernelNextIdeal.τ).loc Cert.KernelNextIdeal.main_arg3) = m ((c.tc : Thread Cert.KernelNextIdeal.nD Cert.KernelNextIdeal.τ).loc Cert.KernelNextIdeal.main_arg3)
          ∧ r.2.mem ((c.tc : Thread Cert.KernelNextIdeal.nD Cert.KernelNextIdeal.τ).loc Cert.KernelNextIdeal.main_arg4) = m ((c.tc : Thread Cert.KernelNextIdeal.nD Cert.KernelNextIdeal.τ).loc Cert.KernelNextIdeal.main_arg4))
      ∧ θ_run (Cert.ReferenceNextIdeal.defs (F := Ideal)) (onTc (τ := Cert.ReferenceNextIdeal.τ) (Cert.ReferenceNextIdeal.main (F := Ideal))) ⟨m', fun _ => 0, g'⟩ (fun r => ∀ c : Dev Cert.ReferenceNextIdeal.nD,
          r.2.mem ((c.tc : Thread Cert.ReferenceNextIdeal.nD Cert.ReferenceNextIdeal.τ).loc Cert.ReferenceNextIdeal.main_v35) = v0 c
          ∧ r.2.mem ((c.tc : Thread Cert.ReferenceNextIdeal.nD Cert.ReferenceNextIdeal.τ).loc Cert.ReferenceNextIdeal.main_v44) = v1 c
          ∧ r.2.mem ((c.tc : Thread Cert.ReferenceNextIdeal.nD Cert.ReferenceNextIdeal.τ).loc Cert.ReferenceNextIdeal.main_arg0) = m' ((c.tc : Thread Cert.ReferenceNextIdeal.nD Cert.ReferenceNextIdeal.τ).loc Cert.ReferenceNextIdeal.main_arg0)
          ∧ r.2.mem ((c.tc : Thread Cert.ReferenceNextIdeal.nD Cert.ReferenceNextIdeal.τ).loc Cert.ReferenceNextIdeal.main_arg1) = m' ((c.tc : Thread Cert.ReferenceNextIdeal.nD Cert.ReferenceNextIdeal.τ).loc Cert.ReferenceNextIdeal.main_arg1)
          ∧ r.2.mem ((c.tc : Thread Cert.ReferenceNextIdeal.nD Cert.ReferenceNextIdeal.τ).loc Cert.ReferenceNextIdeal.main_arg2) = m' ((c.tc : Thread Cert.ReferenceNextIdeal.nD Cert.ReferenceNextIdeal.τ).loc Cert.ReferenceNextIdeal.main_arg2)
          ∧ r.2.mem ((c.tc : Thread Cert.ReferenceNextIdeal.nD Cert.ReferenceNextIdeal.τ).loc Cert.ReferenceNextIdeal.main_arg3) = m' ((c.tc : Thread Cert.ReferenceNextIdeal.nD Cert.ReferenceNextIdeal.τ).loc Cert.ReferenceNextIdeal.main_arg3)
          ∧ r.2.mem ((c.tc : Thread Cert.ReferenceNextIdeal.nD Cert.ReferenceNextIdeal.τ).loc Cert.ReferenceNextIdeal.main_arg4) = m' ((c.tc : Thread Cert.ReferenceNextIdeal.nD Cert.ReferenceNextIdeal.τ).loc Cert.ReferenceNextIdeal.main_arg4))

def preserves_KernelRows_KernelRowsIdeal : Prop :=
  True

def algebraic_KernelRowsIdeal_ReferenceRowsIdeal [hKernelRowsIdeal : Cert.KernelRowsIdeal.Facts] [hReferenceRowsIdeal : Cert.ReferenceRowsIdeal.Facts] : Prop :=
  ∀ (m : (ℓ : Loc Cert.KernelRowsIdeal.nD Cert.KernelRowsIdeal.τ Cert.KernelRowsIdeal.sig) → Buf (Elt Ideal) ℓ) (g : Dev Cert.KernelRowsIdeal.nD → PrngReg)
    (m' : (ℓ : Loc Cert.ReferenceRowsIdeal.nD Cert.ReferenceRowsIdeal.τ Cert.ReferenceRowsIdeal.sig) → Buf (Elt Ideal) ℓ) (g' : Dev Cert.ReferenceRowsIdeal.nD → PrngReg), Pre_KernelRowsIdeal m →
    (∀ c : Dev Cert.KernelRowsIdeal.nD,
      m' ((c.tc : Thread Cert.ReferenceRowsIdeal.nD Cert.ReferenceRowsIdeal.τ).loc Cert.ReferenceRowsIdeal.main_arg0) = m ((c.tc : Thread Cert.KernelRowsIdeal.nD Cert.KernelRowsIdeal.τ).loc Cert.KernelRowsIdeal.main_arg0)
      ∧ m' ((c.tc : Thread Cert.ReferenceRowsIdeal.nD Cert.ReferenceRowsIdeal.τ).loc Cert.ReferenceRowsIdeal.main_arg1) = m ((c.tc : Thread Cert.KernelRowsIdeal.nD Cert.KernelRowsIdeal.τ).loc Cert.KernelRowsIdeal.main_arg1)) →
    ∃ (v0 : (c : Dev Cert.KernelRowsIdeal.nD) → Buf (Elt Ideal) ((c.tc : Thread Cert.KernelRowsIdeal.nD Cert.KernelRowsIdeal.τ).loc Cert.KernelRowsIdeal.main_v0)),
      θ_run (Cert.KernelRowsIdeal.defs (F := Ideal)) (onTc (τ := Cert.KernelRowsIdeal.τ) (Cert.KernelRowsIdeal.main (F := Ideal))) ⟨m, fun _ => 0, g⟩ (fun r => ∀ c : Dev Cert.KernelRowsIdeal.nD,
          r.2.mem ((c.tc : Thread Cert.KernelRowsIdeal.nD Cert.KernelRowsIdeal.τ).loc Cert.KernelRowsIdeal.main_v0) = v0 c
          ∧ r.2.mem ((c.tc : Thread Cert.KernelRowsIdeal.nD Cert.KernelRowsIdeal.τ).loc Cert.KernelRowsIdeal.main_arg0) = m ((c.tc : Thread Cert.KernelRowsIdeal.nD Cert.KernelRowsIdeal.τ).loc Cert.KernelRowsIdeal.main_arg0)
          ∧ r.2.mem ((c.tc : Thread Cert.KernelRowsIdeal.nD Cert.KernelRowsIdeal.τ).loc Cert.KernelRowsIdeal.main_arg1) = m ((c.tc : Thread Cert.KernelRowsIdeal.nD Cert.KernelRowsIdeal.τ).loc Cert.KernelRowsIdeal.main_arg1))
      ∧ θ_run (Cert.ReferenceRowsIdeal.defs (F := Ideal)) (onTc (τ := Cert.ReferenceRowsIdeal.τ) (Cert.ReferenceRowsIdeal.main (F := Ideal))) ⟨m', fun _ => 0, g'⟩ (fun r => ∀ c : Dev Cert.ReferenceRowsIdeal.nD,
          r.2.mem ((c.tc : Thread Cert.ReferenceRowsIdeal.nD Cert.ReferenceRowsIdeal.τ).loc Cert.ReferenceRowsIdeal.main_v12) = v0 c
          ∧ r.2.mem ((c.tc : Thread Cert.ReferenceRowsIdeal.nD Cert.ReferenceRowsIdeal.τ).loc Cert.ReferenceRowsIdeal.main_arg0) = m' ((c.tc : Thread Cert.ReferenceRowsIdeal.nD Cert.ReferenceRowsIdeal.τ).loc Cert.ReferenceRowsIdeal.main_arg0)
          ∧ r.2.mem ((c.tc : Thread Cert.ReferenceRowsIdeal.nD Cert.ReferenceRowsIdeal.τ).loc Cert.ReferenceRowsIdeal.main_arg1) = m' ((c.tc : Thread Cert.ReferenceRowsIdeal.nD Cert.ReferenceRowsIdeal.τ).loc Cert.ReferenceRowsIdeal.main_arg1))

def preserves_KernelCond_KernelCondIdeal : Prop :=
  True

def algebraic_KernelCondIdeal_ReferenceCondIdeal [hKernelCondIdeal : Cert.KernelCondIdeal.Facts] [hReferenceCondIdeal : Cert.ReferenceCondIdeal.Facts] : Prop :=
  ∀ (m : (ℓ : Loc Cert.KernelCondIdeal.nD Cert.KernelCondIdeal.τ Cert.KernelCondIdeal.sig) → Buf (Elt Ideal) ℓ) (g : Dev Cert.KernelCondIdeal.nD → PrngReg)
    (m' : (ℓ : Loc Cert.ReferenceCondIdeal.nD Cert.ReferenceCondIdeal.τ Cert.ReferenceCondIdeal.sig) → Buf (Elt Ideal) ℓ) (g' : Dev Cert.ReferenceCondIdeal.nD → PrngReg), Pre_KernelCondIdeal m →
    (∀ c : Dev Cert.KernelCondIdeal.nD,
      m' ((c.tc : Thread Cert.ReferenceCondIdeal.nD Cert.ReferenceCondIdeal.τ).loc Cert.ReferenceCondIdeal.main_arg0) = m ((c.tc : Thread Cert.KernelCondIdeal.nD Cert.KernelCondIdeal.τ).loc Cert.KernelCondIdeal.main_arg0)
      ∧ m' ((c.tc : Thread Cert.ReferenceCondIdeal.nD Cert.ReferenceCondIdeal.τ).loc Cert.ReferenceCondIdeal.main_arg1) = m ((c.tc : Thread Cert.KernelCondIdeal.nD Cert.KernelCondIdeal.τ).loc Cert.KernelCondIdeal.main_arg1)
      ∧ m' ((c.tc : Thread Cert.ReferenceCondIdeal.nD Cert.ReferenceCondIdeal.τ).loc Cert.ReferenceCondIdeal.main_arg2) = m ((c.tc : Thread Cert.KernelCondIdeal.nD Cert.KernelCondIdeal.τ).loc Cert.KernelCondIdeal.main_arg2)) →
    ∃ (v0 : (c : Dev Cert.KernelCondIdeal.nD) → Buf (Elt Ideal) ((c.tc : Thread Cert.KernelCondIdeal.nD Cert.KernelCondIdeal.τ).loc Cert.KernelCondIdeal.main_v1)),
      θ_run (Cert.KernelCondIdeal.defs (F := Ideal)) (onTc (τ := Cert.KernelCondIdeal.τ) (Cert.KernelCondIdeal.main (F := Ideal))) ⟨m, fun _ => 0, g⟩ (fun r => ∀ c : Dev Cert.KernelCondIdeal.nD,
          r.2.mem ((c.tc : Thread Cert.KernelCondIdeal.nD Cert.KernelCondIdeal.τ).loc Cert.KernelCondIdeal.main_v1) = v0 c
          ∧ r.2.mem ((c.tc : Thread Cert.KernelCondIdeal.nD Cert.KernelCondIdeal.τ).loc Cert.KernelCondIdeal.main_arg0) = m ((c.tc : Thread Cert.KernelCondIdeal.nD Cert.KernelCondIdeal.τ).loc Cert.KernelCondIdeal.main_arg0)
          ∧ r.2.mem ((c.tc : Thread Cert.KernelCondIdeal.nD Cert.KernelCondIdeal.τ).loc Cert.KernelCondIdeal.main_arg1) = m ((c.tc : Thread Cert.KernelCondIdeal.nD Cert.KernelCondIdeal.τ).loc Cert.KernelCondIdeal.main_arg1)
          ∧ r.2.mem ((c.tc : Thread Cert.KernelCondIdeal.nD Cert.KernelCondIdeal.τ).loc Cert.KernelCondIdeal.main_arg2) = m ((c.tc : Thread Cert.KernelCondIdeal.nD Cert.KernelCondIdeal.τ).loc Cert.KernelCondIdeal.main_arg2))
      ∧ θ_run (Cert.ReferenceCondIdeal.defs (F := Ideal)) (onTc (τ := Cert.ReferenceCondIdeal.τ) (Cert.ReferenceCondIdeal.main (F := Ideal))) ⟨m', fun _ => 0, g'⟩ (fun r => ∀ c : Dev Cert.ReferenceCondIdeal.nD,
          r.2.mem ((c.tc : Thread Cert.ReferenceCondIdeal.nD Cert.ReferenceCondIdeal.τ).loc Cert.ReferenceCondIdeal.main_v5) = v0 c
          ∧ r.2.mem ((c.tc : Thread Cert.ReferenceCondIdeal.nD Cert.ReferenceCondIdeal.τ).loc Cert.ReferenceCondIdeal.main_arg0) = m' ((c.tc : Thread Cert.ReferenceCondIdeal.nD Cert.ReferenceCondIdeal.τ).loc Cert.ReferenceCondIdeal.main_arg0)
          ∧ r.2.mem ((c.tc : Thread Cert.ReferenceCondIdeal.nD Cert.ReferenceCondIdeal.τ).loc Cert.ReferenceCondIdeal.main_arg1) = m' ((c.tc : Thread Cert.ReferenceCondIdeal.nD Cert.ReferenceCondIdeal.τ).loc Cert.ReferenceCondIdeal.main_arg1)
          ∧ r.2.mem ((c.tc : Thread Cert.ReferenceCondIdeal.nD Cert.ReferenceCondIdeal.τ).loc Cert.ReferenceCondIdeal.main_arg2) = m' ((c.tc : Thread Cert.ReferenceCondIdeal.nD Cert.ReferenceCondIdeal.τ).loc Cert.ReferenceCondIdeal.main_arg2))

def preserves_KernelContext_KernelContextIdeal : Prop :=
  True

def algebraic_KernelContextIdeal_ReferenceContextIdeal_pre_finite_context [hKernelContextIdeal : Cert.KernelContextIdeal.Facts] [hReferenceContextIdeal : Cert.ReferenceContextIdeal.Facts] [hPre_finite_context : Cert.Pre_finite_context.Facts] : Prop :=
  ∀ (m : (ℓ : Loc Cert.KernelContextIdeal.nD Cert.KernelContextIdeal.τ Cert.KernelContextIdeal.sig) → Buf (Elt Ideal) ℓ) (g : Dev Cert.KernelContextIdeal.nD → PrngReg)
    (m' : (ℓ : Loc Cert.ReferenceContextIdeal.nD Cert.ReferenceContextIdeal.τ Cert.ReferenceContextIdeal.sig) → Buf (Elt Ideal) ℓ) (g' : Dev Cert.ReferenceContextIdeal.nD → PrngReg), Pre_KernelContextIdeal_finite_context m →
    (∀ c : Dev Cert.KernelContextIdeal.nD,
      m' ((c.tc : Thread Cert.ReferenceContextIdeal.nD Cert.ReferenceContextIdeal.τ).loc Cert.ReferenceContextIdeal.main_arg0) = m ((c.tc : Thread Cert.KernelContextIdeal.nD Cert.KernelContextIdeal.τ).loc Cert.KernelContextIdeal.main_arg0)
      ∧ m' ((c.tc : Thread Cert.ReferenceContextIdeal.nD Cert.ReferenceContextIdeal.τ).loc Cert.ReferenceContextIdeal.main_arg1) = m ((c.tc : Thread Cert.KernelContextIdeal.nD Cert.KernelContextIdeal.τ).loc Cert.KernelContextIdeal.main_arg1)) →
    ∃ (v0 : (c : Dev Cert.KernelContextIdeal.nD) → Buf (Elt Ideal) ((c.tc : Thread Cert.KernelContextIdeal.nD Cert.KernelContextIdeal.τ).loc Cert.KernelContextIdeal.main_v2)),
      θ_run (Cert.KernelContextIdeal.defs (F := Ideal)) (onTc (τ := Cert.KernelContextIdeal.τ) (Cert.KernelContextIdeal.main (F := Ideal))) ⟨m, fun _ => 0, g⟩ (fun r => ∀ c : Dev Cert.KernelContextIdeal.nD,
          r.2.mem ((c.tc : Thread Cert.KernelContextIdeal.nD Cert.KernelContextIdeal.τ).loc Cert.KernelContextIdeal.main_v2) = v0 c
          ∧ r.2.mem ((c.tc : Thread Cert.KernelContextIdeal.nD Cert.KernelContextIdeal.τ).loc Cert.KernelContextIdeal.main_arg0) = m ((c.tc : Thread Cert.KernelContextIdeal.nD Cert.KernelContextIdeal.τ).loc Cert.KernelContextIdeal.main_arg0)
          ∧ r.2.mem ((c.tc : Thread Cert.KernelContextIdeal.nD Cert.KernelContextIdeal.τ).loc Cert.KernelContextIdeal.main_arg1) = m ((c.tc : Thread Cert.KernelContextIdeal.nD Cert.KernelContextIdeal.τ).loc Cert.KernelContextIdeal.main_arg1))
      ∧ θ_run (Cert.ReferenceContextIdeal.defs (F := Ideal)) (onTc (τ := Cert.ReferenceContextIdeal.τ) (Cert.ReferenceContextIdeal.main (F := Ideal))) ⟨m', fun _ => 0, g'⟩ (fun r => ∀ c : Dev Cert.ReferenceContextIdeal.nD,
          r.2.mem ((c.tc : Thread Cert.ReferenceContextIdeal.nD Cert.ReferenceContextIdeal.τ).loc Cert.ReferenceContextIdeal.main_v25) = v0 c
          ∧ r.2.mem ((c.tc : Thread Cert.ReferenceContextIdeal.nD Cert.ReferenceContextIdeal.τ).loc Cert.ReferenceContextIdeal.main_arg0) = m' ((c.tc : Thread Cert.ReferenceContextIdeal.nD Cert.ReferenceContextIdeal.τ).loc Cert.ReferenceContextIdeal.main_arg0)
          ∧ r.2.mem ((c.tc : Thread Cert.ReferenceContextIdeal.nD Cert.ReferenceContextIdeal.τ).loc Cert.ReferenceContextIdeal.main_arg1) = m' ((c.tc : Thread Cert.ReferenceContextIdeal.nD Cert.ReferenceContextIdeal.τ).loc Cert.ReferenceContextIdeal.main_arg1))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelQuery : Cert.KernelQuery.Facts) (hKernelQueryIdeal : Cert.KernelQueryIdeal.Facts) (hReferenceQueryIdeal : Cert.ReferenceQueryIdeal.Facts) (hKernelNorm : Cert.KernelNorm.Facts) (hKernelNormIdeal : Cert.KernelNormIdeal.Facts) (hReferenceNormIdeal : Cert.ReferenceNormIdeal.Facts) (hKernelNext : Cert.KernelNext.Facts) (hKernelNextIdeal : Cert.KernelNextIdeal.Facts) (hReferenceNextIdeal : Cert.ReferenceNextIdeal.Facts) (hKernelRows : Cert.KernelRows.Facts) (hKernelRowsIdeal : Cert.KernelRowsIdeal.Facts) (hReferenceRowsIdeal : Cert.ReferenceRowsIdeal.Facts) (hKernelCond : Cert.KernelCond.Facts) (hKernelCondIdeal : Cert.KernelCondIdeal.Facts) (hReferenceCondIdeal : Cert.ReferenceCondIdeal.Facts) (hKernelContext : Cert.KernelContext.Facts) (hKernelContextIdeal : Cert.KernelContextIdeal.Facts) (hReferenceContextIdeal : Cert.ReferenceContextIdeal.Facts) (hPre_finite : Cert.Pre_finite.Facts) (hPre_finite_context : Cert.Pre_finite_context.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelQuery (hKernelQuery := hKernelQuery)
    ∧ quiescent_KernelQueryIdeal (hKernelQueryIdeal := hKernelQueryIdeal)
    ∧ quiescent_ReferenceQueryIdeal (hReferenceQueryIdeal := hReferenceQueryIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelNext (hKernelNext := hKernelNext)
    ∧ quiescent_KernelNextIdeal (hKernelNextIdeal := hKernelNextIdeal)
    ∧ quiescent_ReferenceNextIdeal (hReferenceNextIdeal := hReferenceNextIdeal)
    ∧ quiescent_KernelRows (hKernelRows := hKernelRows)
    ∧ quiescent_KernelRowsIdeal (hKernelRowsIdeal := hKernelRowsIdeal)
    ∧ quiescent_ReferenceRowsIdeal (hReferenceRowsIdeal := hReferenceRowsIdeal)
    ∧ quiescent_KernelCond (hKernelCond := hKernelCond)
    ∧ quiescent_KernelCondIdeal (hKernelCondIdeal := hKernelCondIdeal)
    ∧ quiescent_ReferenceCondIdeal (hReferenceCondIdeal := hReferenceCondIdeal)
    ∧ quiescent_KernelContext (hKernelContext := hKernelContext)
    ∧ quiescent_KernelContextIdeal (hKernelContextIdeal := hKernelContextIdeal)
    ∧ quiescent_KernelContextIdeal_pre_finite_context (hKernelContextIdeal := hKernelContextIdeal) (hPre_finite_context := hPre_finite_context)
    ∧ quiescent_ReferenceContextIdeal (hReferenceContextIdeal := hReferenceContextIdeal)
    ∧ quiescent_ReferenceContextIdeal_pre_finite_context (hReferenceContextIdeal := hReferenceContextIdeal) (hPre_finite_context := hPre_finite_context)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelQuery_KernelQueryIdeal
    ∧ algebraic_KernelQueryIdeal_ReferenceQueryIdeal (hKernelQueryIdeal := hKernelQueryIdeal) (hReferenceQueryIdeal := hReferenceQueryIdeal)
    ∧ preserves_KernelNorm_KernelNormIdeal
    ∧ algebraic_KernelNormIdeal_ReferenceNormIdeal (hKernelNormIdeal := hKernelNormIdeal) (hReferenceNormIdeal := hReferenceNormIdeal)
    ∧ preserves_KernelNext_KernelNextIdeal
    ∧ algebraic_KernelNextIdeal_ReferenceNextIdeal (hKernelNextIdeal := hKernelNextIdeal) (hReferenceNextIdeal := hReferenceNextIdeal)
    ∧ preserves_KernelRows_KernelRowsIdeal
    ∧ algebraic_KernelRowsIdeal_ReferenceRowsIdeal (hKernelRowsIdeal := hKernelRowsIdeal) (hReferenceRowsIdeal := hReferenceRowsIdeal)
    ∧ preserves_KernelCond_KernelCondIdeal
    ∧ algebraic_KernelCondIdeal_ReferenceCondIdeal (hKernelCondIdeal := hKernelCondIdeal) (hReferenceCondIdeal := hReferenceCondIdeal)
    ∧ preserves_KernelContext_KernelContextIdeal
    ∧ algebraic_KernelContextIdeal_ReferenceContextIdeal_pre_finite_context (hKernelContextIdeal := hKernelContextIdeal) (hReferenceContextIdeal := hReferenceContextIdeal) (hPre_finite_context := hPre_finite_context)
-- ==== Pre_finite.lean ====
abbrev S16384x4096 : Shape := ⟨2, ![16384, 4096]⟩
abbrev S256x4096 : Shape := ⟨2, ![256, 4096]⟩
abbrev S4096x12288 : Shape := ⟨2, ![4096, 12288]⟩
abbrev S4096x4096 : Shape := ⟨2, ![4096, 4096]⟩
abbrev S32x15x31 : Shape := ⟨3, ![32, 15, 31]⟩
abbrev S_ : Shape := ⟨0, ![]⟩

class Facts : Prop where
  bcast_S_S16384x4096 : S_.BroadcastsInDim S16384x4096 (![] : Fin 0 → Fin S16384x4096.rank)
  bcast_S_S256x4096 : S_.BroadcastsInDim S256x4096 (![] : Fin 0 → Fin S256x4096.rank)
  bcast_S_S4096x12288 : S_.BroadcastsInDim S4096x12288 (![] : Fin 0 → Fin S4096x12288.rank)
  bcast_S_S32x15x31 : S_.BroadcastsInDim S32x15x31 (![] : Fin 0 → Fin S32x15x31.rank)

variable [Facts]

def fn_part1 {F : FTy → Type} [FloatOps F] (main_arg4 : FVec F S32x15x31 .f32) (main_v4 : IVec S16384x4096 1) (main_v9 : IVec S256x4096 1) (main_v14 : IVec S4096x12288 1) (main_v16 : IVec S32x15x31 1) : IVec S16384x4096 1 × IVec S256x4096 1 × IVec S4096x12288 1 × IVec S32x15x31 1 :=
  let main_cst_6 : FVec F S_ .f32 := constant S_ .f32 0xFF800000#32
  let main_v17 : FVec F S32x15x31 .f32 := broadcastInDim S32x15x31 ![] bcast_S_S32x15x31 main_cst_6
  let main_v18 : IVec S32x15x31 1 := cmpf .ogt main_arg4 main_v17
  let main_v19 : IVec S32x15x31 1 := andi main_v16 main_v18
  (main_v4, main_v9, main_v14, main_v19)

def fn {F : FTy → Type} [FloatOps F] (main_arg0 : FVec F S16384x4096 .bf16) (main_arg1 : FVec F S256x4096 .bf16) (main_arg2 : FVec F S4096x12288 .f32) (main_arg3 : FVec F S4096x4096 .f32) (main_arg4 : FVec F S32x15x31 .f32) : IVec S16384x4096 1 × IVec S256x4096 1 × IVec S4096x12288 1 × IVec S32x15x31 1 :=
  let main_cst : FVec F S_ .bf16 := constant S_ .bf16 0x7F80#16
  let main_v0 : FVec F S16384x4096 .bf16 := broadcastInDim S16384x4096 ![] bcast_S_S16384x4096 main_cst
  let main_v1 : IVec S16384x4096 1 := cmpf .olt main_arg0 main_v0
  let main_cst_0 : FVec F S_ .bf16 := constant S_ .bf16 0xFF80#16
  let main_v2 : FVec F S16384x4096 .bf16 := broadcastInDim S16384x4096 ![] bcast_S_S16384x4096 main_cst_0
  let main_v3 : IVec S16384x4096 1 := cmpf .ogt main_arg0 main_v2
  let main_v4 : IVec S16384x4096 1 := andi main_v1 main_v3
  let main_cst_1 : FVec F S_ .bf16 := constant S_ .bf16 0x7F80#16
  let main_v5 : FVec F S256x4096 .bf16 := broadcastInDim S256x4096 ![] bcast_S_S256x4096 main_cst_1
  let main_v6 : IVec S256x4096 1 := cmpf .olt main_arg1 main_v5
  let main_cst_2 : FVec F S_ .bf16 := constant S_ .bf16 0xFF80#16
  let main_v7 : FVec F S256x4096 .bf16 := broadcastInDim S256x4096 ![] bcast_S_S256x4096 main_cst_2
  let main_v8 : IVec S256x4096 1 := cmpf .ogt main_arg1 main_v7
  let main_v9 : IVec S256x4096 1 := andi main_v6 main_v8
  let main_cst_3 : FVec F S_ .f32 := constant S_ .f32 0x7F800000#32
  let main_v10 : FVec F S4096x12288 .f32 := broadcastInDim S4096x12288 ![] bcast_S_S4096x12288 main_cst_3
  let main_v11 : IVec S4096x12288 1 := cmpf .olt main_arg2 main_v10
  let main_cst_4 : FVec F S_ .f32 := constant S_ .f32 0xFF800000#32
  let main_v12 : FVec F S4096x12288 .f32 := broadcastInDim S4096x12288 ![] bcast_S_S4096x12288 main_cst_4
  let main_v13 : IVec S4096x12288 1 := cmpf .ogt main_arg2 main_v12
  let main_v14 : IVec S4096x12288 1 := andi main_v11 main_v13
  let main_cst_5 : FVec F S_ .f32 := constant S_ .f32 0x7F800000#32
  let main_v15 : FVec F S32x15x31 .f32 := broadcastInDim S32x15x31 ![] bcast_S_S32x15x31 main_cst_5
  let main_v16 : IVec S32x15x31 1 := cmpf .olt main_arg4 main_v15
  fn_part1 (F := F) main_arg4 main_v4 main_v9 main_v14 main_v16
-- ==== Pre_finite_context.lean ====
abbrev S256x12288 : Shape := ⟨2, ![256, 12288]⟩
abbrev S4096x4096 : Shape := ⟨2, ![4096, 4096]⟩
abbrev S_ : Shape := ⟨0, ![]⟩

class Facts : Prop where
  bcast_S_S256x12288 : S_.BroadcastsInDim S256x12288 (![] : Fin 0 → Fin S256x12288.rank)

variable [Facts]

def fn {F : FTy → Type} [FloatOps F] (main_arg0 : FVec F S256x12288 .bf16) (main_arg1 : FVec F S4096x4096 .f32) : IVec S256x12288 1 :=
  let main_cst : FVec F S_ .bf16 := constant S_ .bf16 0x7F80#16
  let main_v0 : FVec F S256x12288 .bf16 := broadcastInDim S256x12288 ![] bcast_S_S256x12288 main_cst
  let main_v1 : IVec S256x12288 1 := cmpf .olt main_arg0 main_v0
  let main_cst_0 : FVec F S_ .bf16 := constant S_ .bf16 0xFF80#16
  let main_v2 : FVec F S256x12288 .bf16 := broadcastInDim S256x12288 ![] bcast_S_S256x12288 main_cst_0
  let main_v3 : IVec S256x12288 1 := cmpf .ogt main_arg0 main_v2
  let main_v4 : IVec S256x12288 1 := andi main_v1 main_v3
  main_v4
-- ==== Kernel.lean ====
abbrev S16384x4096 : Shape := ⟨2, ![16384, 4096]⟩
abbrev S256x4096 : Shape := ⟨2, ![256, 4096]⟩
abbrev S4096x12288 : Shape := ⟨2, ![4096, 12288]⟩
abbrev S4096x4096 : Shape := ⟨2, ![4096, 4096]⟩
abbrev S32x15x31 : Shape := ⟨3, ![32, 15, 31]⟩
abbrev S16384x12288 : Shape := ⟨2, ![16384, 12288]⟩
abbrev S1024x4096 : Shape := ⟨2, ![1024, 4096]⟩
abbrev S4096x1024 : Shape := ⟨2, ![4096, 1024]⟩
abbrev S1024x1024 : Shape := ⟨2, ![1024, 1024]⟩
abbrev S256x12288 : Shape := ⟨2, ![256, 12288]⟩
abbrev S256x1024 : Shape := ⟨2, ![256, 1024]⟩
abbrev S14880 : Shape := ⟨1, ![14880]⟩
abbrev S32x8x64x512 : Shape := ⟨4, ![32, 8, 64, 512]⟩
abbrev S1x8x64x512 : Shape := ⟨4, ![1, 8, 64, 512]⟩
abbrev S64x64 : Shape := ⟨2, ![64, 64]⟩
abbrev S1 : Shape := ⟨1, ![1]⟩
abbrev S64x512 : Shape := ⟨2, ![64, 512]⟩
abbrev S1x1x64x512 : Shape := ⟨4, ![1, 1, 64, 512]⟩
abbrev S512x256 : Shape := ⟨2, ![512, 256]⟩
abbrev S16384x256 : Shape := ⟨2, ![16384, 256]⟩
abbrev S256x256 : Shape := ⟨2, ![256, 256]⟩
abbrev S2x8x64x512 : Shape := ⟨4, ![2, 8, 64, 512]⟩
abbrev S64x128 : Shape := ⟨2, ![64, 128]⟩
abbrev S512x128 : Shape := ⟨2, ![512, 128]⟩
abbrev S256x128 : Shape := ⟨2, ![256, 128]⟩
abbrev S64x256 : Shape := ⟨2, ![64, 256]⟩
abbrev S64 : Shape := ⟨1, ![64]⟩
abbrev S64x1 : Shape := ⟨2, ![64, 1]⟩

abbrev nBuf : Space → Nat
  | .hbm => 13
  | .vmem => 33
  | .smem => 1
  | _ => 0

abbrev bufTy : (tb : Table) → Fin (tcTables nBuf tb) → BufTy
  | .hbm, ⟨0, _⟩ => ⟨S16384x4096, .bf16⟩
  | .hbm, ⟨1, _⟩ => ⟨S256x4096, .bf16⟩
  | .hbm, ⟨2, _⟩ => ⟨S4096x12288, .f32⟩
  | .hbm, ⟨3, _⟩ => ⟨S4096x4096, .f32⟩
  | .hbm, ⟨4, _⟩ => ⟨S32x15x31, .f32⟩
  | .hbm, ⟨5, _⟩ => ⟨S4096x12288, .bf16⟩
  | .hbm, ⟨6, _⟩ => ⟨S4096x4096, .bf16⟩
  | .hbm, ⟨7, _⟩ => ⟨S16384x12288, .bf16⟩
  | .hbm, ⟨8, _⟩ => ⟨S256x12288, .bf16⟩
  | .hbm, ⟨9, _⟩ => ⟨S14880, .f32⟩
  | .hbm, ⟨10, _⟩ => ⟨S32x8x64x512, .f32⟩
  | .hbm, ⟨11, _⟩ => ⟨S16384x4096, .bf16⟩
  | .hbm, ⟨12, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S256x4096, .bf16⟩
  | .local _ .vmem, ⟨7, _⟩ => ⟨S4096x1024, .bf16⟩
  | .local _ .vmem, ⟨8, _⟩ => ⟨S4096x1024, .bf16⟩
  | .local _ .vmem, ⟨9, _⟩ => ⟨S256x1024, .bf16⟩
  | .local _ .vmem, ⟨10, _⟩ => ⟨S256x1024, .bf16⟩
  | .local _ .vmem, ⟨11, _⟩ => ⟨S1x8x64x512, .f32⟩
  | .local _ .vmem, ⟨12, _⟩ => ⟨S1x8x64x512, .f32⟩
  | .local _ .vmem, ⟨13, _⟩ => ⟨S512x256, .bf16⟩
  | .local _ .vmem, ⟨14, _⟩ => ⟨S512x256, .bf16⟩
  | .local _ .vmem, ⟨15, _⟩ => ⟨S16384x256, .bf16⟩
  | .local _ .vmem, ⟨16, _⟩ => ⟨S16384x256, .bf16⟩
  | .local _ .vmem, ⟨17, _⟩ => ⟨S16384x256, .bf16⟩
  | .local _ .vmem, ⟨18, _⟩ => ⟨S16384x256, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S256x256, .bf16⟩
  | .local _ .vmem, ⟨23, _⟩ => ⟨S2x8x64x512, .f32⟩
  | .local _ .vmem, ⟨24, _⟩ => ⟨S2x8x64x512, .f32⟩
  | .local _ .vmem, ⟨25, _⟩ => ⟨S512x256, .bf16⟩
  | .local _ .vmem, ⟨26, _⟩ => ⟨S512x256, .bf16⟩
  | .local _ .vmem, ⟨27, _⟩ => ⟨S1024x4096, .bf16⟩
  | .local _ .vmem, ⟨28, _⟩ => ⟨S1024x4096, .bf16⟩
  | .local _ .vmem, ⟨29, _⟩ => ⟨S4096x1024, .bf16⟩
  | .local _ .vmem, ⟨30, _⟩ => ⟨S4096x1024, .bf16⟩
  | .local _ .vmem, ⟨31, _⟩ => ⟨S1024x1024, .f32⟩
  | .local _ .vmem, ⟨32, _⟩ => ⟨S1024x1024, .f32⟩
  | .local _ .smem, ⟨0, _⟩ => ⟨S14880, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg1_0 : Ref sig .tc := ⟨.vmem, 11, rfl⟩
abbrev cc2_stg1_1 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc3_stg4_1 : Ref sig .tc := ⟨.vmem, 22, rfl⟩
abbrev cc3_stg5_0 : Ref sig .tc := ⟨.vmem, 23, rfl⟩
abbrev cc3_stg5_1 : Ref sig .tc := ⟨.vmem, 24, rfl⟩
abbrev cc3_stg6_0 : Ref sig .tc := ⟨.vmem, 25, rfl⟩
abbrev cc3_stg6_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc2_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem2_1 : DmaSem sig := 19
abbrev cc3_sem3_0 : DmaSem sig := 20
abbrev cc3_sem3_1 : DmaSem sig := 21
abbrev cc3_sem4_0 : DmaSem sig := 22
abbrev cc3_sem4_1 : DmaSem sig := 23
abbrev cc3_sem5_0 : DmaSem sig := 24
abbrev cc3_sem5_1 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S256x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![32], ![false]⟩

def k2_off1 (i : grid2.Coords) (c0_i32_2 : BitVec 32) (c0_i32_3 : BitVec 32) : Fin 1 → Nat :=
  let arg0 : BitVec 32 := BitVec.ofNat 32 (i 0).val
  let c15_i32_1 : BitVec 32 := 15#32
  let v19 : BitVec 32 := Scalar.muli arg0 c15_i32_1
  let v20 : BitVec 32 := Scalar.addi v19 c0_i32_2
  let c31_i32 : BitVec 32 := 31#32
  let v21 : BitVec 32 := Scalar.muli v20 c31_i32
  let v22 : BitVec 32 := Scalar.addi v21 c0_i32_3
  let v23 : Index := Scalar.indexCast v22
  ![v23.toNat]
def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 1 → Memref sig .tc .smem S14880 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x8x64x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨2, ![16, 32], ![false, false]⟩

@[reducible] def k3_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k3_mult1 (i : grid3.Coords) (k3_t1 : Fin k3_t1_loop.trips) : BitVec 32 :=
  let c248_i32 : BitVec 32 := 248#32
  let c0_i32_2 : BitVec 32 := 0#32
  let arg1 : BitVec 32 := BitVec.ofNat 32 (i 1).val
  let c8_i32_1 : BitVec 32 := 8#32
  let v1 : BitVec 32 := Scalar.muli arg1 c8_i32_1
  let c0_i32 : BitVec 32 := 0#32
  let c1_i32 : BitVec 32 := 1#32
  let arg9 : BitVec 32 := Scf.iv c0_i32 c1_i32 k3_t1
  let v2 : BitVec 32 := Scalar.addi v1 arg9
  let c4_i32 : BitVec 32 := 4#32
  let v3 : BitVec 32 := Scalar.subi v2 c4_i32
  let v4 : BitVec 32 := Scalar.maxsi c0_i32_2 v3
  let v5 : BitVec 32 := Scalar.minsi c248_i32 v4
  let c64_i32 : BitVec 32 := 64#32
  let v8 : BitVec 32 := Scalar.muli v5 c64_i32
  v8
def k3_mult2 (k3_t1 : Fin k3_t1_loop.trips) : BitVec 32 :=
  let c0_i32 : BitVec 32 := 0#32
  let c1_i32 : BitVec 32 := 1#32
  let arg9 : BitVec 32 := Scf.iv c0_i32 c1_i32 k3_t1
  let c64_i32_3 : BitVec 32 := 64#32
  let v10 : BitVec 32 := Scalar.muli arg9 c64_i32_3
  v10
def k3_off1 (k3_t1 : Fin k3_t1_loop.trips) : Fin 2 → Nat :=
  let c0_i32 : BitVec 32 := 0#32
  let c1_i32 : BitVec 32 := 1#32
  let arg9 : BitVec 32 := Scf.iv c0_i32 c1_i32 k3_t1
  let c64_i32_3 : BitVec 32 := 64#32
  let v10 : BitVec 32 := Scalar.muli arg9 c64_i32_3
  let v11 : BitVec 32 := v10
  let v12 : Index := Scalar.indexCast v11
  let c0 : Index := 0#32
  ![v12.toNat, 0]
def k3_off2 (i : grid3.Coords) (k3_t1 : Fin k3_t1_loop.trips) : Fin 2 → Nat :=
  let c248_i32 : BitVec 32 := 248#32
  let c0_i32_2 : BitVec 32 := 0#32
  let arg1 : BitVec 32 := BitVec.ofNat 32 (i 1).val
  let c8_i32_1 : BitVec 32 := 8#32
  let v1 : BitVec 32 := Scalar.muli arg1 c8_i32_1
  let c0_i32 : BitVec 32 := 0#32
  let c1_i32 : BitVec 32 := 1#32
  let arg9 : BitVec 32 := Scf.iv c0_i32 c1_i32 k3_t1
  let v2 : BitVec 32 := Scalar.addi v1 arg9
  let c4_i32 : BitVec 32 := 4#32
  let v3 : BitVec 32 := Scalar.subi v2 c4_i32
  let v4 : BitVec 32 := Scalar.maxsi c0_i32_2 v3
  let v5 : BitVec 32 := Scalar.minsi c248_i32 v4
  let c64_i32 : BitVec 32 := 64#32
  let v8 : BitVec 32 := Scalar.muli v5 c64_i32
  let v9 : BitVec 32 := v8
  let v15 : Index := Scalar.indexCast v9
  let c0_4 : Index := 0#32
  ![v15.toNat, 0]
def k3_off3 (i : grid3.Coords) (k3_t1 : Fin k3_t1_loop.trips) : Fin 4 → Nat :=
  let c0_7 : Index := 0#32
  let c248_i32 : BitVec 32 := 248#32
  let c0_i32_2 : BitVec 32 := 0#32
  let arg1 : BitVec 32 := BitVec.ofNat 32 (i 1).val
  let c8_i32_1 : BitVec 32 := 8#32
  let v1 : BitVec 32 := Scalar.muli arg1 c8_i32_1
  let c0_i32 : BitVec 32 := 0#32
  let c1_i32 : BitVec 32 := 1#32
  let arg9 : BitVec 32 := Scf.iv c0_i32 c1_i32 k3_t1
  let v2 : BitVec 32 := Scalar.addi v1 arg9
  let c4_i32 : BitVec 32 := 4#32
  let v3 : BitVec 32 := Scalar.subi v2 c4_i32
  let v4 : BitVec 32 := Scalar.maxsi c0_i32_2 v3
  let v5 : BitVec 32 := Scalar.minsi c248_i32 v4
  let v6 : BitVec 32 := Scalar.subi v5 v2
  let c7_i32 : BitVec 32 := 7#32
  let v7 : BitVec 32 := Scalar.addi v6 c7_i32
  let v24 : Index := Scalar.indexCast v7
  let c0_8 : Index := 0#32
  let c0_9 : Index := 0#32
  ![0, v24.toNat, 0, 0]
def k3_off4 (k3_t1 : Fin k3_t1_loop.trips) : Fin 2 → Nat :=
  let c0_i32 : BitVec 32 := 0#32
  let c1_i32 : BitVec 32 := 1#32
  let arg9 : BitVec 32 := Scf.iv c0_i32 c1_i32 k3_t1
  let c64_i32_3 : BitVec 32 := 64#32
  let v10 : BitVec 32 := Scalar.muli arg9 c64_i32_3
  let v11 : BitVec 32 := v10
  let v61 : Index := Scalar.indexCast v11
  let c128 : Index := 128#32
  ![v61.toNat, 128]
def k3_off5 (i : grid3.Coords) (k3_t1 : Fin k3_t1_loop.trips) : Fin 2 → Nat :=
  let c248_i32 : BitVec 32 := 248#32
  let c0_i32_2 : BitVec 32 := 0#32
  let arg1 : BitVec 32 := BitVec.ofNat 32 (i 1).val
  let c8_i32_1 : BitVec 32 := 8#32
  let v1 : BitVec 32 := Scalar.muli arg1 c8_i32_1
  let c0_i32 : BitVec 32 := 0#32
  let c1_i32 : BitVec 32 := 1#32
  let arg9 : BitVec 32 := Scf.iv c0_i32 c1_i32 k3_t1
  let v2 : BitVec 32 := Scalar.addi v1 arg9
  let c4_i32 : BitVec 32 := 4#32
  let v3 : BitVec 32 := Scalar.subi v2 c4_i32
  let v4 : BitVec 32 := Scalar.maxsi c0_i32_2 v3
  let v5 : BitVec 32 := Scalar.minsi c248_i32 v4
  let c64_i32 : BitVec 32 := 64#32
  let v8 : BitVec 32 := Scalar.muli v5 c64_i32
  let v9 : BitVec 32 := v8
  let v64 : Index := Scalar.indexCast v9
  let c128_23 : Index := 128#32
  ![v64.toNat, 128]
def k3_off6 (i : grid3.Coords) (k3_t1 : Fin k3_t1_loop.trips) : Fin 4 → Nat :=
  let c1 : Index := 1#32
  let c248_i32 : BitVec 32 := 248#32
  let c0_i32_2 : BitVec 32 := 0#32
  let arg1 : BitVec 32 := BitVec.ofNat 32 (i 1).val
  let c8_i32_1 : BitVec 32 := 8#32
  let v1 : BitVec 32 := Scalar.muli arg1 c8_i32_1
  let c0_i32 : BitVec 32 := 0#32
  let c1_i32 : BitVec 32 := 1#32
  let arg9 : BitVec 32 := Scf.iv c0_i32 c1_i32 k3_t1
  let v2 : BitVec 32 := Scalar.addi v1 arg9
  let c4_i32 : BitVec 32 := 4#32
  let v3 : BitVec 32 := Scalar.subi v2 c4_i32
  let v4 : BitVec 32 := Scalar.maxsi c0_i32_2 v3
  let v5 : BitVec 32 := Scalar.minsi c248_i32 v4
  let v6 : BitVec 32 := Scalar.subi v5 v2
  let c7_i32 : BitVec 32 := 7#32
  let v7 : BitVec 32 := Scalar.addi v6 c7_i32
  let v73 : Index := Scalar.indexCast v7
  let c0_27 : Index := 0#32
  let c0_28 : Index := 0#32
  ![1, v73.toNat, 0, 0]
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc3_transform_3 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc3_transform_4 (i : grid3.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc3_transform_5 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S16384x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S16384x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S256x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S256x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S2x8x64x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S512x256 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev grid4 : Pipeline.Grid := ⟨2, ![16, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== KernelIdeal.lean ====
variable {F : FTy → Type} [FloatOps F] [Named F]
def κ : String → Option EReal := fun
  | "mask" => some ⊥
  | _ => none
-- ==== ReferenceIdeal.lean ====
abbrev S16384x4096 : Shape := ⟨2, ![16384, 4096]⟩
abbrev S256x4096 : Shape := ⟨2, ![256, 4096]⟩
abbrev S4096x12288 : Shape := ⟨2, ![4096, 12288]⟩
abbrev S4096x4096 : Shape := ⟨2, ![4096, 4096]⟩
abbrev S32x15x31 : Shape := ⟨3, ![32, 15, 31]⟩
abbrev S16384x12288 : Shape := ⟨2, ![16384, 12288]⟩
abbrev S256x64x3x32x128 : Shape := ⟨5, ![256, 64, 3, 32, 128]⟩
abbrev S256x64x1x32x128 : Shape := ⟨5, ![256, 64, 1, 32, 128]⟩
abbrev S256x64x32x128 : Shape := ⟨4, ![256, 64, 32, 128]⟩
abbrev S256x12288 : Shape := ⟨2, ![256, 12288]⟩
abbrev S256x3x32x128 : Shape := ⟨4, ![256, 3, 32, 128]⟩
abbrev S256x1x32x128 : Shape := ⟨4, ![256, 1, 32, 128]⟩
abbrev S256x32x128 : Shape := ⟨3, ![256, 32, 128]⟩
abbrev S256 : Shape := ⟨1, ![256]⟩
abbrev S_ : Shape := ⟨0, ![]⟩
abbrev S64 : Shape := ⟨1, ![64]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S256x8x1x1 : Shape := ⟨4, ![256, 8, 1, 1]⟩
abbrev S1x1x64x16 : Shape := ⟨4, ![1, 1, 64, 16]⟩
abbrev S256x8x64x16 : Shape := ⟨4, ![256, 8, 64, 16]⟩
abbrev S256x8x64x16x1 : Shape := ⟨5, ![256, 8, 64, 16, 1]⟩
abbrev S256x8x64x16x2 : Shape := ⟨5, ![256, 8, 64, 16, 2]⟩
abbrev S256x8x64x16x32x128 : Shape := ⟨6, ![256, 8, 64, 16, 32, 128]⟩
abbrev S32x256x8x64x16 : Shape := ⟨5, ![32, 256, 8, 64, 16]⟩
abbrev S256x64x32x8x16 : Shape := ⟨5, ![256, 64, 32, 8, 16]⟩
abbrev S32x256x256x64 : Shape := ⟨4, ![32, 256, 256, 64]⟩
abbrev S256x64x32x256 : Shape := ⟨4, ![256, 64, 32, 256]⟩
abbrev S256x64x32x384 : Shape := ⟨4, ![256, 64, 32, 384]⟩
abbrev S256x64x32 : Shape := ⟨3, ![256, 64, 32]⟩
abbrev S256x64x32x1 : Shape := ⟨4, ![256, 64, 32, 1]⟩
abbrev S32x128x256x64 : Shape := ⟨4, ![32, 128, 256, 64]⟩

abbrev nBuf : Space → Nat
  | .hbm => 173
  | .vmem => 0
  | .smem => 0
  | _ => 0

abbrev hbmTy0_0 (i : Nat) : BufTy := match i % 128 with
  | 0 => ⟨S16384x4096, .bf16⟩
  | 1 => ⟨S256x4096, .bf16⟩
  | 2 => ⟨S4096x12288, .f32⟩
  | 3 => ⟨S4096x4096, .f32⟩
  | 4 => ⟨S32x15x31, .f32⟩
  | 5 => ⟨S16384x4096, .f32⟩
  | 6 => ⟨S16384x12288, .f32⟩
  | 7 => ⟨S256x64x3x32x128, .f32⟩
  | 8 => ⟨S256x64x1x32x128, .f32⟩
  | 9 => ⟨S256x64x32x128, .f32⟩
  | 10 => ⟨S256x64x1x32x128, .f32⟩
  | 11 => ⟨S256x64x32x128, .f32⟩
  | 12 => ⟨S256x64x1x32x128, .f32⟩
  | 13 => ⟨S256x64x32x128, .f32⟩
  | 14 => ⟨S256x4096, .f32⟩
  | 15 => ⟨S256x12288, .f32⟩
  | 16 => ⟨S256x3x32x128, .f32⟩
  | 17 => ⟨S256x1x32x128, .f32⟩
  | 18 => ⟨S256x32x128, .f32⟩
  | 19 => ⟨S256x1x32x128, .f32⟩
  | 20 => ⟨S256x32x128, .f32⟩
  | 21 => ⟨S256, .i32⟩
  | 22 => ⟨S_, .i32⟩
  | 23 => ⟨S256, .i32⟩
  | 24 => ⟨S256, .i32⟩
  | 25 => ⟨S_, .i32⟩
  | 26 => ⟨S_, .i32⟩
  | 27 => ⟨S_, .i32⟩
  | 28 => ⟨S256, .i32⟩
  | 29 => ⟨S256, .i32⟩
  | 30 => ⟨S_, .i32⟩
  | 31 => ⟨S256, .i32⟩
  | 32 => ⟨S256, .i32⟩
  | 33 => ⟨S64, .i32⟩
  | 34 => ⟨S_, .i32⟩
  | 35 => ⟨S64, .i32⟩
  | 36 => ⟨S64, .i32⟩
  | 37 => ⟨S_, .i32⟩
  | 38 => ⟨S_, .i32⟩
  | 39 => ⟨S_, .i32⟩
  | 40 => ⟨S64, .i32⟩
  | 41 => ⟨S64, .i32⟩
  | 42 => ⟨S_, .i32⟩
  | 43 => ⟨S64, .i32⟩
  | 44 => ⟨S64, .i32⟩
  | 45 => ⟨S256x1, .i32⟩
  | 46 => ⟨S8, .i32⟩
  | 47 => ⟨S1x8, .i32⟩
  | 48 => ⟨S256x8, .i32⟩
  | 49 => ⟨S256x8, .i32⟩
  | 50 => ⟨S256x8, .i32⟩
  | 51 => ⟨S64x1, .i32⟩
  | 52 => ⟨S16, .i32⟩
  | 53 => ⟨S1x16, .i32⟩
  | 54 => ⟨S64x16, .i32⟩
  | 55 => ⟨S64x16, .i32⟩
  | 56 => ⟨S64x16, .i32⟩
  | 57 => ⟨S256, .i32⟩
  | 58 => ⟨S256x1, .i32⟩
  | 59 => ⟨S256x8, .i32⟩
  | 60 => ⟨S256x8, .i32⟩
  | 61 => ⟨S_, .i32⟩
  | 62 => ⟨S256x8, .i32⟩
  | 63 => ⟨S256x8, .i32⟩
  | 64 => ⟨S64, .i32⟩
  | 65 => ⟨S64x1, .i32⟩
  | 66 => ⟨S64x16, .i32⟩
  | 67 => ⟨S64x16, .i32⟩
  | 68 => ⟨S_, .i32⟩
  | 69 => ⟨S64x16, .i32⟩
  | 70 => ⟨S64x16, .i32⟩
  | 71 => ⟨S256x8x1x1, .i32⟩
  | 72 => ⟨S1x1x64x16, .i32⟩
  | 73 => ⟨S_, .i32⟩
  | 74 => ⟨S256x8x1x1, .i32⟩
  | 75 => ⟨S256x8x1x1, .i1⟩
  | 76 => ⟨S_, .i32⟩
  | 77 => ⟨S256x8x1x1, .i32⟩
  | 78 => ⟨S256x8x1x1, .i32⟩
  | 79 => ⟨S256x8x1x1, .i32⟩
  | 80 => ⟨S_, .i32⟩
  | 81 => ⟨S1x1x64x16, .i32⟩
  | 82 => ⟨S1x1x64x16, .i1⟩
  | 83 => ⟨S_, .i32⟩
  | 84 => ⟨S1x1x64x16, .i32⟩
  | 85 => ⟨S1x1x64x16, .i32⟩
  | 86 => ⟨S1x1x64x16, .i32⟩
  | 87 => ⟨S256x8x64x16, .i32⟩
  | 88 => ⟨S256x8x64x16, .i32⟩
  | 89 => ⟨S256x8x64x16x1, .i32⟩
  | 90 => ⟨S256x8x64x16x1, .i32⟩
  | 91 => ⟨S256x8x64x16x2, .i32⟩
  | 92 => ⟨S256x8x64x16x32x128, .f32⟩
  | 93 => ⟨S256x8x1x1, .i32⟩
  | 94 => ⟨S1x1x64x16, .i32⟩
  | 95 => ⟨S_, .i32⟩
  | 96 => ⟨S256x8x1x1, .i32⟩
  | 97 => ⟨S256x8x1x1, .i1⟩
  | 98 => ⟨S_, .i32⟩
  | 99 => ⟨S256x8x1x1, .i32⟩
  | 100 => ⟨S256x8x1x1, .i32⟩
  | 101 => ⟨S256x8x1x1, .i32⟩
  | 102 => ⟨S_, .i32⟩
  | 103 => ⟨S1x1x64x16, .i32⟩
  | 104 => ⟨S1x1x64x16, .i1⟩
  | 105 => ⟨S_, .i32⟩
  | 106 => ⟨S1x1x64x16, .i32⟩
  | 107 => ⟨S1x1x64x16, .i32⟩
  | 108 => ⟨S1x1x64x16, .i32⟩
  | 109 => ⟨S256x8x64x16, .i32⟩
  | 110 => ⟨S256x8x64x16, .i32⟩
  | 111 => ⟨S256x8x64x16x1, .i32⟩
  | 112 => ⟨S256x8x64x16x1, .i32⟩
  | 113 => ⟨S256x8x64x16x2, .i32⟩
  | 114 => ⟨S256x8x64x16x32x128, .f32⟩
  | 115 => ⟨S256x8x1x1, .i32⟩
  | 116 => ⟨S1x1x64x16, .i32⟩
  | 117 => ⟨S_, .i32⟩
  | 118 => ⟨S256x8x1x1, .i32⟩
  | 119 => ⟨S256x8x1x1, .i1⟩
  | 120 => ⟨S_, .i32⟩
  | 121 => ⟨S256x8x1x1, .i32⟩
  | 122 => ⟨S256x8x1x1, .i32⟩
  | 123 => ⟨S256x8x1x1, .i32⟩
  | 124 => ⟨S_, .i32⟩
  | 125 => ⟨S1x1x64x16, .i32⟩
  | 126 => ⟨S1x1x64x16, .i1⟩
  | 127 => ⟨S_, .i32⟩
  | _ => ⟨S16384x4096, .bf16⟩

abbrev hbmTy0_1 (i : Nat) : BufTy := match i % 128 with
  | 0 => ⟨S1x1x64x16, .i32⟩
  | 1 => ⟨S1x1x64x16, .i32⟩
  | 2 => ⟨S1x1x64x16, .i32⟩
  | 3 => ⟨S256x8x64x16, .i32⟩
  | 4 => ⟨S256x8x64x16, .i32⟩
  | 5 => ⟨S256x8x64x16x1, .i32⟩
  | 6 => ⟨S256x8x64x16x1, .i32⟩
  | 7 => ⟨S256x8x64x16x2, .i32⟩
  | 8 => ⟨S32x256x8x64x16, .f32⟩
  | 9 => ⟨S256x64x32x8x16, .f32⟩
  | 10 => ⟨S256x64x32x8x16, .f32⟩
  | 11 => ⟨S_, .f32⟩
  | 12 => ⟨S256x64x32x8x16, .f32⟩
  | 13 => ⟨S256x64x32x8x16, .f32⟩
  | 14 => ⟨S256x64x32x8x16, .f32⟩
  | 15 => ⟨S32x256x256x64, .f32⟩
  | 16 => ⟨S256x64x32x256, .f32⟩
  | 17 => ⟨S_, .f32⟩
  | 18 => ⟨S256x64x32x256, .f32⟩
  | 19 => ⟨S256x64x32x256, .f32⟩
  | 20 => ⟨S256x64x32x128, .f32⟩
  | 21 => ⟨S256x64x32x384, .f32⟩
  | 22 => ⟨S_, .f32⟩
  | 23 => ⟨S256x64x32, .f32⟩
  | 24 => ⟨S_, .f32⟩
  | 25 => ⟨S256x64x32, .f32⟩
  | 26 => ⟨S256x64x32, .f32⟩
  | 27 => ⟨S256x64x32x1, .f32⟩
  | 28 => ⟨S256x64x32x384, .f32⟩
  | 29 => ⟨S256x64x32x384, .f32⟩
  | 30 => ⟨S256x64x32x384, .f32⟩
  | 31 => ⟨S_, .f32⟩
  | 32 => ⟨S256x64x32, .f32⟩
  | 33 => ⟨S256x64x32x1, .f32⟩
  | 34 => ⟨S256x64x32x384, .f32⟩
  | 35 => ⟨S256x64x32x384, .f32⟩
  | 36 => ⟨S256x64x32x128, .f32⟩
  | 37 => ⟨S256x64x32x8x16, .f32⟩
  | 38 => ⟨S256x64x32x128, .f32⟩
  | 39 => ⟨S256x64x32x256, .f32⟩
  | 40 => ⟨S32x128x256x64, .f32⟩
  | 41 => ⟨S256x64x32x128, .f32⟩
  | 42 => ⟨S256x64x32x128, .f32⟩
  | 43 => ⟨S16384x4096, .f32⟩
  | 44 => ⟨S16384x4096, .f32⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_c_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_c_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_7 : Ref sig .tc := ⟨.hbm, 73, rfl⟩
abbrev main_v50 : Ref sig .tc := ⟨.hbm, 74, rfl⟩
abbrev main_v51 : Ref sig .tc := ⟨.hbm, 75, rfl⟩
abbrev main_c_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_9 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_11 : Ref sig .tc := ⟨.hbm, 95, rfl⟩
abbrev main_v68 : Ref sig .tc := ⟨.hbm, 96, rfl⟩
abbrev main_v69 : Ref sig .tc := ⟨.hbm, 97, rfl⟩
abbrev main_c_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_15 : Ref sig .tc := ⟨.hbm, 117, rfl⟩
abbrev main_v86 : Ref sig .tc := ⟨.hbm, 118, rfl⟩
abbrev main_v87 : Ref sig .tc := ⟨.hbm, 119, rfl⟩
abbrev main_c_16 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_17 : Ref sig .tc := ⟨.hbm, 124, rfl⟩
abbrev main_v91 : Ref sig .tc := ⟨.hbm, 125, rfl⟩
abbrev main_v92 : Ref sig .tc := ⟨.hbm, 126, rfl⟩
abbrev main_c_18 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_19 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_20 : Ref sig .tc := ⟨.hbm, 150, rfl⟩
abbrev main_v113 : Ref sig .tc := ⟨.hbm, 151, rfl⟩
abbrev main_cst_21 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_22 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩

abbrev nD : Nat := 1
abbrev τ : Topo := Topo.v7x

variable {F : FTy → Type} [FloatOps F]
-- ==== KernelIn.lean ====
abbrev S16384x4096 : Shape := ⟨2, ![16384, 4096]⟩
abbrev S4096x8192 : Shape := ⟨2, ![4096, 8192]⟩
abbrev S16384x8192 : Shape := ⟨2, ![16384, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x8192, .f32⟩
  | .hbm, ⟨2, _⟩ => ⟨S4096x8192, .bf16⟩
  | .hbm, ⟨3, _⟩ => ⟨S16384x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInIdeal.lean ====
abbrev S16384x4096 : Shape := ⟨2, ![16384, 4096]⟩
abbrev S4096x8192 : Shape := ⟨2, ![4096, 8192]⟩
abbrev S16384x8192 : Shape := ⟨2, ![16384, 8192]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x8192, .f32⟩
  | .hbm, ⟨2, _⟩ => ⟨S16384x4096, .f32⟩
  | .hbm, ⟨3, _⟩ => ⟨S16384x8192, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelOut.lean ====
abbrev S16384x4096 : Shape := ⟨2, ![16384, 4096]⟩
abbrev S16384x8192 : Shape := ⟨2, ![16384, 8192]⟩
abbrev S4096x4096 : Shape := ⟨2, ![4096, 4096]⟩
abbrev S256x4096 : Shape := ⟨2, ![256, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x8192, .f32⟩
  | .hbm, ⟨3, _⟩ => ⟨S4096x4096, .f32⟩
  | .hbm, ⟨4, _⟩ => ⟨S4096x4096, .bf16⟩
  | .hbm, ⟨5, _⟩ => ⟨S16384x4096, .bf16⟩
  | .hbm, ⟨6, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | .local _ .vmem, ⟨8, _⟩ => ⟨S1024x4096, .bf16⟩
  | .local _ .vmem, ⟨9, _⟩ => ⟨S1024x4096, .bf16⟩
  | .local _ .vmem, ⟨10, _⟩ => ⟨S4096x1024, .bf16⟩
  | .local _ .vmem, ⟨11, _⟩ => ⟨S4096x1024, .bf16⟩
  | .local _ .vmem, ⟨12, _⟩ => ⟨S1024x1024, .f32⟩
  | .local _ .vmem, ⟨13, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceOutIdeal.lean ====
abbrev S16384x4096 : Shape := ⟨2, ![16384, 4096]⟩
abbrev S16384x8192 : Shape := ⟨2, ![16384, 8192]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x8192, .f32⟩
  | .hbm, ⟨3, _⟩ => ⟨S4096x4096, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== KernelQuery.lean ====
abbrev S16384x4096 : Shape := ⟨2, ![16384, 4096]⟩
abbrev S4096x2048 : Shape := ⟨2, ![4096, 2048]⟩
abbrev S16384x2048 : Shape := ⟨2, ![16384, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S4096x2048, .bf16⟩
  | .hbm, ⟨3, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQueryIdeal.lean ====
abbrev S16384x4096 : Shape := ⟨2, ![16384, 4096]⟩
abbrev S4096x2048 : Shape := ⟨2, ![4096, 2048]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x4096, .f32⟩
  | .hbm, ⟨3, _⟩ => ⟨S16384x2048, .f32⟩
  | .hbm, ⟨4, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelNorm.lean ====
abbrev S16384x4096 : Shape := ⟨2, ![16384, 4096]⟩
abbrev S4x8x24576 : Shape := ⟨3, ![4, 8, 24576]⟩
abbrev S4096 : Shape := ⟨1, ![4096]⟩
abbrev S1x4096 : Shape := ⟨2, ![1, 4096]⟩
abbrev S256x4096 : Shape := ⟨2, ![256, 4096]⟩
abbrev S1x8x4096 : Shape := ⟨3, ![1, 8, 4096]⟩
abbrev S1x1x4096 : Shape := ⟨3, ![1, 1, 4096]⟩
abbrev S256 : Shape := ⟨1, ![256]⟩
abbrev S256x1 : Shape := ⟨2, ![256, 1]⟩
abbrev S1x16384x4096 : Shape := ⟨3, ![1, 16384, 4096]⟩

abbrev nBuf : Space → Nat
  | .hbm => 9
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4x8x24576, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S16384x4096, .f32⟩
  | .hbm, ⟨8, _⟩ => ⟨S1x16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x8x4096, .f32⟩
  | .local _ .vmem, ⟨5, _⟩ => ⟨S1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c5_i32 : BitVec 32 := 5#32
  let c0_i32_0 : BitVec 32 := 0#32
  ![c3_i32.toNat, c0_i32.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceNormIdeal.lean ====
abbrev S16384x4096 : Shape := ⟨2, ![16384, 4096]⟩
abbrev S4x8x24576 : Shape := ⟨3, ![4, 8, 24576]⟩
abbrev S4096 : Shape := ⟨1, ![4096]⟩
abbrev S1x1x4096 : Shape := ⟨3, ![1, 1, 4096]⟩
abbrev S_ : Shape := ⟨0, ![]⟩
abbrev S1x4096 : Shape := ⟨2, ![1, 4096]⟩
abbrev S16384 : Shape := ⟨1, ![16384]⟩
abbrev S16384x1 : Shape := ⟨2, ![16384, 1]⟩
abbrev S1x16384x4096 : Shape := ⟨3, ![1, 16384, 4096]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4x8x24576, .f32⟩
  | .hbm, ⟨3, _⟩ => ⟨S4096, .f32⟩
  | .hbm, ⟨4, _⟩ => ⟨S4096, .f32⟩
  | .hbm, ⟨5, _⟩ => ⟨S1x1x4096, .f32⟩
  | .hbm, ⟨6, _⟩ => ⟨S4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x4096, .f32⟩
  | .hbm, ⟨37, _⟩ => ⟨S16384x4096, .f32⟩
  | .hbm, ⟨38, _⟩ => ⟨S1x4096, .f32⟩
  | .hbm, ⟨39, _⟩ => ⟨S16384x4096, .f32⟩
  | .hbm, ⟨40, _⟩ => ⟨S16384x4096, .f32⟩
  | .hbm, ⟨41, _⟩ => ⟨S1x4096, .f32⟩
  | .hbm, ⟨42, _⟩ => ⟨S16384x4096, .f32⟩
  | .hbm, ⟨43, _⟩ => ⟨S16384x4096, .f32⟩
  | .hbm, ⟨44, _⟩ => ⟨S1x16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== KernelNext.lean ====
abbrev S16384x4096 : Shape := ⟨2, ![16384, 4096]⟩
abbrev S4x8x24576 : Shape := ⟨3, ![4, 8, 24576]⟩
abbrev S4096 : Shape := ⟨1, ![4096]⟩
abbrev S1x4096 : Shape := ⟨2, ![1, 4096]⟩
abbrev S256x4096 : Shape := ⟨2, ![256, 4096]⟩
abbrev S1x8x4096 : Shape := ⟨3, ![1, 8, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4x8x24576, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S16384x4096, .f32⟩
  | .hbm, ⟨8, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x8x4096, .f32⟩
  | .local _ .vmem, ⟨5, _⟩ => ⟨S1x4096, .f32⟩
  | .local _ .vmem, ⟨6, _⟩ => ⟨S1x4096, .f32⟩
  | .local _ .vmem, ⟨7, _⟩ => ⟨S1x8x4096, .f32⟩
  | .local _ .vmem, ⟨8, _⟩ => ⟨S1x8x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceNextIdeal.lean ====
abbrev S16384x4096 : Shape := ⟨2, ![16384, 4096]⟩
abbrev S4x8x24576 : Shape := ⟨3, ![4, 8, 24576]⟩
abbrev S4096 : Shape := ⟨1, ![4096]⟩
abbrev S1x1x4096 : Shape := ⟨3, ![1, 1, 4096]⟩
abbrev S_ : Shape := ⟨0, ![]⟩
abbrev S1x4096 : Shape := ⟨2, ![1, 4096]⟩
abbrev S16384 : Shape := ⟨1, ![16384]⟩
abbrev S16384x1 : Shape := ⟨2, ![16384, 1]⟩

abbrev nBuf : Space → Nat
  | .hbm => 57
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4x8x24576, .f32⟩
  | .hbm, ⟨3, _⟩ => ⟨S4096, .f32⟩
  | .hbm, ⟨4, _⟩ => ⟨S4096, .f32⟩
  | .hbm, ⟨5, _⟩ => ⟨S1x1x4096, .f32⟩
  | .hbm, ⟨6, _⟩ => ⟨S4096, .f32⟩
  | .hbm, ⟨7, _⟩ => ⟨S1x1x4096, .f32⟩
  | .hbm, ⟨8, _⟩ => ⟨S4096, .f32⟩
  | .hbm, ⟨9, _⟩ => ⟨S1x1x4096, .f32⟩
  | .hbm, ⟨10, _⟩ => ⟨S4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S1x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x4096, .f32⟩
  | .hbm, ⟨34, _⟩ => ⟨S16384x4096, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x4096, .f32⟩
  | .hbm, ⟨40, _⟩ => ⟨S16384x4096, .f32⟩
  | .hbm, ⟨41, _⟩ => ⟨S1x4096, .f32⟩
  | .hbm, ⟨42, _⟩ => ⟨S16384x4096, .f32⟩
  | .hbm, ⟨43, _⟩ => ⟨S16384x4096, .f32⟩
  | .hbm, ⟨44, _⟩ => ⟨S1x4096, .f32⟩
  | .hbm, ⟨45, _⟩ => ⟨S16384x4096, .f32⟩
  | .hbm, ⟨46, _⟩ => ⟨S16384x4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S1x4096, .f32⟩
  | .hbm, ⟨51, _⟩ => ⟨S16384x4096, .f32⟩
  | .hbm, ⟨52, _⟩ => ⟨S16384x4096, .f32⟩
  | .hbm, ⟨53, _⟩ => ⟨S1x4096, .f32⟩
  | .hbm, ⟨54, _⟩ => ⟨S16384x4096, .f32⟩
  | .hbm, ⟨55, _⟩ => ⟨S16384x4096, .f32⟩
  | .hbm, ⟨56, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== KernelRows.lean ====
abbrev S16384x4096 : Shape := ⟨2, ![16384, 4096]⟩
abbrev S4x8x24576 : Shape := ⟨3, ![4, 8, 24576]⟩
abbrev S256x4096 : Shape := ⟨2, ![256, 4096]⟩
abbrev S1x8x4096 : Shape := ⟨3, ![1, 8, 4096]⟩
abbrev S1x1x4096 : Shape := ⟨3, ![1, 1, 4096]⟩
abbrev S1x4096 : Shape := ⟨2, ![1, 4096]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4x8x24576, .f32⟩
  | .hbm, ⟨2, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x8x4096, .f32⟩
  | .local _ .vmem, ⟨3, _⟩ => ⟨S1x8x4096, .f32⟩
  | .local _ .vmem, ⟨4, _⟩ => ⟨S256x4096, .bf16⟩
  | .local _ .vmem, ⟨5, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceRowsIdeal.lean ====
abbrev S16384x4096 : Shape := ⟨2, ![16384, 4096]⟩
abbrev S4x8x24576 : Shape := ⟨3, ![4, 8, 24576]⟩
abbrev S1x1x4096 : Shape := ⟨3, ![1, 1, 4096]⟩
abbrev S4096 : Shape := ⟨1, ![4096]⟩
abbrev S_ : Shape := ⟨0, ![]⟩
abbrev S1x4096 : Shape := ⟨2, ![1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x8x24576, .f32⟩
  | .hbm, ⟨2, _⟩ => ⟨S1x1x4096, .f32⟩
  | .hbm, ⟨3, _⟩ => ⟨S4096, .f32⟩
  | .hbm, ⟨4, _⟩ => ⟨S1x1x4096, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== KernelCond.lean ====
abbrev S8x4096 : Shape := ⟨2, ![8, 4096]⟩
abbrev S4x4096x24576 : Shape := ⟨3, ![4, 4096, 24576]⟩
abbrev S4x24576 : Shape := ⟨2, ![4, 24576]⟩
abbrev S4x1x24576 : Shape := ⟨3, ![4, 1, 24576]⟩
abbrev S4x8x24576 : Shape := ⟨3, ![4, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S4x4096x24576, .f32⟩
  | .hbm, ⟨2, _⟩ => ⟨S4x24576, .f32⟩
  | .hbm, ⟨3, _⟩ => ⟨S4x1x24576, .f32⟩
  | .hbm, ⟨4, _⟩ => ⟨S4x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceCondIdeal.lean ====
abbrev S8x4096 : Shape := ⟨2, ![8, 4096]⟩
abbrev S4x4096x24576 : Shape := ⟨3, ![4, 4096, 24576]⟩
abbrev S4x24576 : Shape := ⟨2, ![4, 24576]⟩
abbrev S_ : Shape := ⟨0, ![]⟩
abbrev S4x24576x8 : Shape := ⟨3, ![4, 24576, 8]⟩
abbrev S4x8x24576 : Shape := ⟨3, ![4, 8, 24576]⟩
abbrev S4x1x24576 : Shape := ⟨3, ![4, 1, 24576]⟩

abbrev nBuf : Space → Nat
  | .hbm => 17
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4x4096x24576, .f32⟩
  | .hbm, ⟨2, _⟩ => ⟨S4x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S4x24576x8, .f32⟩
  | .hbm, ⟨13, _⟩ => ⟨S4x8x24576, .f32⟩
  | .hbm, ⟨14, _⟩ => ⟨S4x1x24576, .f32⟩
  | .hbm, ⟨15, _⟩ => ⟨S4x8x24576, .f32⟩
  | .hbm, ⟨16, _⟩ => ⟨S4x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== KernelContext.lean ====
abbrev S256x12288 : Shape := ⟨2, ![256, 12288]⟩
abbrev S4096x4096 : Shape := ⟨2, ![4096, 4096]⟩
abbrev S256x4096 : Shape := ⟨2, ![256, 4096]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S4096x1024 : Shape := ⟨2, ![4096, 1024]⟩
abbrev S256x1024 : Shape := ⟨2, ![256, 1024]⟩

abbrev nBuf : Space → Nat
  | .hbm => 5
  | .vmem => 13
  | .smem => 0
  | _ => 0

abbrev bufTy : (tb : Table) → Fin (tcTables nBuf tb) → BufTy
  | .hbm, ⟨0, _⟩ => ⟨S256x12288, .bf16⟩
  | .hbm, ⟨1, _⟩ => ⟨S4096x4096, .f32⟩
  | .hbm, ⟨2, _⟩ => ⟨S4096x4096, .bf16⟩
  | .hbm, ⟨3, _⟩ => ⟨S256x4096, .bf16⟩
  | .hbm, ⟨4, _⟩ => ⟨S256x4096, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x4096, .bf16⟩
  | .local _ .vmem, ⟨9, _⟩ => ⟨S4096x1024, .bf16⟩
  | .local _ .vmem, ⟨10, _⟩ => ⟨S4096x1024, .bf16⟩
  | .local _ .vmem, ⟨11, _⟩ => ⟨S256x1024, .f32⟩
  | .local _ .vmem, ⟨12, _⟩ => ⟨S256x1024, .f32⟩
  | _, _ => ⟨S256x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S256x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceContextIdeal.lean ====
abbrev S256x12288 : Shape := ⟨2, ![256, 12288]⟩
abbrev S4096x4096 : Shape := ⟨2, ![4096, 4096]⟩
abbrev S256x3x32x128 : Shape := ⟨4, ![256, 3, 32, 128]⟩
abbrev S256x1x32x128 : Shape := ⟨4, ![256, 1, 32, 128]⟩
abbrev S256x32x128 : Shape := ⟨3, ![256, 32, 128]⟩
abbrev S32x256x256 : Shape := ⟨3, ![32, 256, 256]⟩
abbrev S_ : Shape := ⟨0, ![]⟩
abbrev S32x256 : Shape := ⟨2, ![32, 256]⟩
abbrev S32x256x1 : Shape := ⟨3, ![32, 256, 1]⟩
abbrev S32x128x256 : Shape := ⟨3, ![32, 128, 256]⟩
abbrev S256x4096 : Shape := ⟨2, ![256, 4096]⟩

abbrev nBuf : Space → Nat
  | .hbm => 32
  | .vmem => 0
  | .smem => 0
  | _ => 0

abbrev bufTy : (tb : Table) → Fin (tcTables nBuf tb) → BufTy
  | .hbm, ⟨0, _⟩ => ⟨S256x12288, .bf16⟩
  | .hbm, ⟨1, _⟩ => ⟨S4096x4096, .f32⟩
  | .hbm, ⟨2, _⟩ => ⟨S256x12288, .f32⟩
  | .hbm, ⟨3, _⟩ => ⟨S256x3x32x128, .f32⟩
  | .hbm, ⟨4, _⟩ => ⟨S256x1x32x128, .f32⟩
  | .hbm, ⟨5, _⟩ => ⟨S256x32x128, .f32⟩
  | .hbm, ⟨6, _⟩ => ⟨S256x1x32x128, .f32⟩
  | .hbm, ⟨7, _⟩ => ⟨S256x32x128, .f32⟩
  | .hbm, ⟨8, _⟩ => ⟨S256x1x32x128, .f32⟩
  | .hbm, ⟨9, _⟩ => ⟨S256x32x128, .f32⟩
  | .hbm, ⟨10, _⟩ => ⟨S32x256x256, .f32⟩
  | .hbm, ⟨11, _⟩ => ⟨S_, .f32⟩
  | .hbm, ⟨12, _⟩ => ⟨S32x256x256, .f32⟩
  | .hbm, ⟨13, _⟩ => ⟨S32x256x256, .f32⟩
  | .hbm, ⟨14, _⟩ => ⟨S_, .f32⟩
  | .hbm, ⟨15, _⟩ => ⟨S32x256, .f32⟩
  | .hbm, ⟨16, _⟩ => ⟨S_, .f32⟩
  | .hbm, ⟨17, _⟩ => ⟨S32x256, .f32⟩
  | .hbm, ⟨18, _⟩ => ⟨S32x256, .f32⟩
  | .hbm, ⟨19, _⟩ => ⟨S32x256x1, .f32⟩
  | .hbm, ⟨20, _⟩ => ⟨S32x256x256, .f32⟩
  | .hbm, ⟨21, _⟩ => ⟨S32x256x256, .f32⟩
  | .hbm, ⟨22, _⟩ => ⟨S32x256x256, .f32⟩
  | .hbm, ⟨23, _⟩ => ⟨S_, .f32⟩
  | .hbm, ⟨24, _⟩ => ⟨S32x256, .f32⟩
  | .hbm, ⟨25, _⟩ => ⟨S32x256x1, .f32⟩
  | .hbm, ⟨26, _⟩ => ⟨S32x256x256, .f32⟩
  | .hbm, ⟨27, _⟩ => ⟨S32x256x256, .f32⟩
  | .hbm, ⟨28, _⟩ => ⟨S32x128x256, .f32⟩
  | .hbm, ⟨29, _⟩ => ⟨S256x32x128, .f32⟩
  | .hbm, ⟨30, _⟩ => ⟨S256x4096, .f32⟩
  | .hbm, ⟨31, _⟩ => ⟨S256x4096, .f32⟩
  | _, _ => ⟨S256x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Proof.Bias.lean ====
/-  The bias table's planes: each of the kernel's fifteen chains of selects holds, at a lattice row `w` and a lane `kc`, the
    entry of the relative bias at the lanes' distance, and −∞ outside the row's window. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Bias

open Cert.KernelIdeal Cert.KernelIdeal.Gen

/-- The mask constant, everywhere in a plane: −∞ by its name. -/
abbrev masked : FVec Ideal S64x64 .f32 := broadcast S64x64 (Named.named κ "mask" 0xF149F2CA#32 : Ideal .f32)

/-- The chain of selects over the first `n` lane distances: the lanes at distance `d` take `f d`, the others what the
    shorter chain leaves. -/
def chain (f : Fin 31 → Ideal .f32) : (n : ℕ) → n ≤ 31 → FVec Ideal S64x64 .f32
  | 0, _ => masked
  | n + 1, h => select (cmpi .eq k2_pay2 (broadcast S64x64 (BitVec.ofNat 32 n))) (broadcast S64x64 (f ⟨n, h⟩)) (chain f n (Nat.le_of_lt h))

/-- A plane: the whole chain inside the window, the mask outside. -/
def plane (f : Fin 31 → Ideal .f32) : FVec Ideal S64x64 .f32 := select k2_pay3 (chain f 31 (Nat.le_refl _)) masked

/-- The relative bias of head `h`, row distance `dr`, lane distance `d`, as the kernel loads it from the flat table. -/
def load {arg1 : Memref sig .tc .smem S14880 .f32} (harg1 : arg1.IsWhole) (i : grid2.Coords) (x0 : Vec Ideal S14880 .f32) (dr : Fin 15) (d : Fin 31) : Ideal .f32 :=
  View.readAt (Elt Ideal) arg1.view (Rect.unit (s := S14880) (k2_off1 i (BitVec.ofNat 32 dr.val) (BitVec.ofNat 32 d.val)) S1.size (k2_off1_inb i dr d)).toLoadRect (harg1.unread x0)
  (Shape.Idx.first (show 0 < S1.numel by rw [numel1_S1]; exact Nat.one_pos))

variable (c : Dev nD) (i : grid2.Coords) (arg1 : Memref sig .tc .smem S14880 .f32) (harg1 : arg1.IsWhole) (x0 : Vec Ideal S14880 .f32)

/-! The run's fifteen planes are these planes, by unfolding. -/

theorem word0 : kernelRun2_A.sl.r_35 (F := Ideal) c i arg1 harg1 x0 = plane (load harg1 i x0 0) := rfl
theorem word1 : kernelRun2_A.sl.r_69 (F := Ideal) c i arg1 harg1 x0 = plane (load harg1 i x0 1) := rfl
theorem word2 : kernelRun2_A.sl.r_99 (F := Ideal) c i arg1 harg1 x0 = plane (load harg1 i x0 2) := rfl
theorem word3 : kernelRun2_A.sl.r_132 (F := Ideal) c i arg1 harg1 x0 = plane (load harg1 i x0 3) := rfl
theorem word4 : kernelRun2_A.sl.r_165 (F := Ideal) c i arg1 harg1 x0 = plane (load harg1 i x0 4) := rfl
theorem word5 : kernelRun2_A.sl.r_199 (F := Ideal) c i arg1 harg1 x0 = plane (load harg1 i x0 5) := rfl
theorem word6 : kernelRun2_A.sl.r_233 (F := Ideal) c i arg1 harg1 x0 = plane (load harg1 i x0 6) := rfl
theorem word7 : kernelRun2_A.sl.r_267 (F := Ideal) c i arg1 harg1 x0 = plane (load harg1 i x0 7) := rfl
theorem word8 : kernelRun2_A.sl.r_297 (F := Ideal) c i arg1 harg1 x0 = plane (load harg1 i x0 8) := rfl
theorem word9 : kernelRun2_A.sl.r_330 (F := Ideal) c i arg1 harg1 x0 = plane (load harg1 i x0 9) := rfl
theorem word10 : kernelRun2_A.sl.r_363 (F := Ideal) c i arg1 harg1 x0 = plane (load harg1 i x0 10) := rfl
theorem word11 : kernelRun2_A.sl.r_397 (F := Ideal) c i arg1 harg1 x0 = plane (load harg1 i x0 11) := rfl
theorem word12 : kernelRun2_A.sl.r_431 (F := Ideal) c i arg1 harg1 x0 = plane (load harg1 i x0 12) := rfl
theorem word13 : kernelRun2_A.sl.r_465 (F := Ideal) c i arg1 harg1 x0 = plane (load harg1 i x0 13) := rfl
theorem word14 : kernelRun2_A.sl.r_495 (F := Ideal) c i arg1 harg1 x0 = plane (load harg1 i x0 14) := rfl

/-- The first lane of the window of lattice column `w`: eight before it, kept within the row. -/
def start (w : ℕ) : ℕ := min 48 (w - 8)

/-- The relative bias a row sees at lane `kc`: its entry by the lanes' distance inside the window, −∞ outside. -/
def cell (f : Fin 31 → EReal) (w kc : Fin 64) : EReal :=
  if h : start w.val ≤ kc.val ∧ kc.val < start w.val + 16 then f ⟨kc.val + 15 - w.val, by unfold start at h; omega⟩ else ⊥

theorem window_bits : ∀ w kc : Fin 64, k2_pay3 (ix2 w kc) = if start w.val ≤ kc.val ∧ kc.val < start w.val + 16 then 1#1 else 0#1 := by
  decide +kernel

theorem dist_bits : ∀ w kc : Fin 64, start w.val ≤ kc.val ∧ kc.val < start w.val + 16 → (k2_pay2 (ix2 w kc)).toNat = kc.val + 15 - w.val := by
  decide +kernel

theorem masked_apply (y : S64x64.Idx) : masked y = (⊥ : EReal) := rfl

theorem chain_apply (f : Fin 31 → Ideal .f32) (y : S64x64.Idx) : ∀ (n : ℕ) (h : n ≤ 31),
    chain f n h y = if g : (k2_pay2 y).toNat < n then f ⟨(k2_pay2 y).toNat, by omega⟩ else (⊥ : EReal)
  | 0, _ => by simp [chain, masked_apply]
  | n + 1, h => by
    have hn : (BitVec.ofNat 32 n).toNat = n := by rw [BitVec.toNat_ofNat]; omega
    show (if IntOp.cmpi CmpIPredicate.eq (k2_pay2 y) (BitVec.ofNat 32 n) = 1#1 then f ⟨n, h⟩ else chain f n _ y) = _
    rw [chain_apply f y n]
    have hb : IntOp.cmpi CmpIPredicate.eq (k2_pay2 y) (BitVec.ofNat 32 n) = 1#1 ↔ (k2_pay2 y).toNat = n := by
      unfold IntOp.cmpi
      constructor
      · intro q
        by_contra e
        have : ¬ k2_pay2 y = BitVec.ofNat 32 n := fun q => e (by rw [q, hn])
        have hf : (k2_pay2 y == BitVec.ofNat 32 n) = false := beq_eq_false_iff_ne.2 this
        simp only [hf] at q
        exact absurd (q : BitVec.ofBool false = 1#1) (by decide)
      · intro e
        have : k2_pay2 y = BitVec.ofNat 32 n := BitVec.eq_of_toNat_eq (by rw [hn, e])
        simp [this]
    by_cases e : (k2_pay2 y).toNat = n
    · rw [if_pos (hb.2 e), dif_pos (by omega)]
      congr 1; exact Fin.ext e.symm
    · rw [if_neg (fun q => e (hb.1 q))]
      by_cases g : (k2_pay2 y).toNat < n
      · rw [dif_pos g, dif_pos (by omega)]
      · rw [dif_neg g, dif_neg (by omega)]

/-- A plane, read: the row's bias at the lane. -/
theorem plane_apply (f : Fin 31 → Ideal .f32) (w kc : Fin 64) : plane f (ix2 w kc) = cell f w kc := by
  unfold plane cell
  show (if k2_pay3 (ix2 w kc) = 1#1 then chain f 31 _ (ix2 w kc) else (⊥ : EReal)) = _
  rw [window_bits]
  by_cases h : start w.val ≤ kc.val ∧ kc.val < start w.val + 16
  · have := dist_bits w kc h
    rw [if_pos h, if_pos rfl, dif_pos h, chain_apply, dif_pos (by rw [this]; unfold start at h; omega)]
    congr 1; exact Fin.ext this
  · rw [if_neg h, dif_neg h]; rfl

/-- A loaded entry is the flat table's, by head, row distance and lane distance. -/
theorem load_apply (dr : Fin 15) (d : Fin 31) : load harg1 i x0 dr d
    = x0 (ix1 (⟨465 * (i 0).val + 31 * dr.val + d.val, by have : (i 0).val < 32 := (i 0).isLt; omega⟩ : Fin 14880)) := by
  unfold load
  rw [View.readAt_eq_ld, Memref.IsWhole.read_unread]
  show x0 _ = _
  congr 1; funext a; apply Fin.ext
  match a with
  | ⟨0, _⟩ =>
    show k2_off1 i (BitVec.ofNat 32 dr.val) (BitVec.ofNat 32 d.val) 0 + 0 = _
    rw [k2_off1_eq]; rfl

/-- Eight planes side by side, read: the plane of the lane's block, at the lane within it. -/
theorem strip_apply (g : Fin 8 → FVec Ideal S64x64 .f32) (h) (w : Fin 64) (col : Fin 512) :
    concatenate S64x512 1 [⟨S64x64, g 0⟩, ⟨S64x64, g 1⟩, ⟨S64x64, g 2⟩, ⟨S64x64, g 3⟩, ⟨S64x64, g 4⟩, ⟨S64x64, g 5⟩, ⟨S64x64, g 6⟩, ⟨S64x64, g 7⟩] h (ix2 w col)
      = g ⟨col.val / 64, by omega⟩ (ix2 w ⟨col.val % 64, by omega⟩) := by
  refine concatenate_ofFn_apply (t := S64x512) (s₁ := S64x64) 1 g h rfl 64 rfl (ix2 w col) ⟨col.val / 64, by omega⟩ rfl _ rfl ?_
  intro b hb
  match b with
  | ⟨0, _⟩ => rfl
  | ⟨1, _⟩ => exact absurd rfl hb

variable (V : (c : Dev nD) → (b : Ref sig .tc) → Buf (Elt Ideal) ((c : Thread nD τ).loc b))

/-- The bias table: by head, offset of the window of rows, lattice column and key position of the window. -/
def tab (b : FVec Ideal S14880 .f32) : FVec Ideal S32x8x64x512 .f32 := fun i =>
  cell (fun d => b (ix1 (⟨465 * (i 0).val + 31 * ((i 1).val + (i 3).val / 64) + d.val,
    by have h0 : (i 0).val < 32 := (i 0).isLt; have h1 : (i 1).val < 8 := (i 1).isLt; have h3 : (i 3).val < 512 := (i 3).isLt; omega⟩ : Fin 14880)))
    (i 2) ⟨(i 3).val % 64, by omega⟩

theorem idx2 : ∀ t : Fin cfg2.N, win2_1.index t = ![t.val, 0, 0, 0] :=
  (by decide +kernel : ∀ t : Fin grid2.N, _)

/-- The eight planes of one offset of the window, side by side, as the kernel stores them. -/
def band (g : Fin 8 → FVec Ideal S64x64 .f32) : FVec Ideal S1x1x64x512 .f32 :=
  shapeCast S1x1x64x512 (concatenate S64x512 1 [⟨S64x64, g 0⟩, ⟨S64x64, g 1⟩, ⟨S64x64, g 2⟩, ⟨S64x64, g 3⟩, ⟨S64x64, g 4⟩, ⟨S64x64, g 5⟩, ⟨S64x64, g 6⟩, ⟨S64x64, g 7⟩]
    concatenates_S64x64_S64x64_S64x64_S64x64_S64x64_S64x64_S64x64_S64x64_S64x512_d1) (by decide)

variable (arg2 : Memref sig .tc .vmem S1x8x64x512 .f32) (harg2 : arg2.IsWhole)

/-- The planes stored at offset `o`: the row distances `o … o + 7`. -/
def planes (o : Fin 8) (a : Fin 8) : FVec Ideal S64x64 .f32 := plane (load harg1 i x0 ⟨o.val + a.val, by omega⟩)

/-- The run's eight stores, the last one first. -/
theorem pieces : (kernelRun2_A (F := Ideal) c i arg1 harg1 arg2 harg2 x0).1 =
    List.ofFn fun k : Fin 8 => (⟨Rect.unit (s := S1x8x64x512) ![0, 7 - k.val, 0, 0] S1x1x64x512.size
      (by intro a; match a with | ⟨0, _⟩ => simp [S1x8x64x512] | ⟨1, _⟩ => simp [S1x8x64x512]; omega | ⟨2, _⟩ => simp [S1x8x64x512] | ⟨3, _⟩ => simp [S1x8x64x512]),
      band (planes i arg1 harg1 x0 ⟨7 - k.val, by omega⟩)⟩ : View.Piece (Elt Ideal) S1x8x64x512 .f32) := by
  rfl

end Cert.KernelIdeal.Bias

end
-- ==== Proof.Offsets.lean ====
/-  The attention's counted loop: where a trip's loads lie. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Trip

open Cert.KernelIdeal Cert.KernelIdeal.Gen

/-- The first row of the window of lattice row `r`: four before it, kept within the lattice. -/
def row0 (r : ℕ) : ℕ := min 248 (r - 4)

/-- The lattice row of trip `k` at a grid point. -/
def row (i : grid3.Coords) (k : Fin k3_t1_loop.trips) : ℕ := 8 * (i 1).val + k.val

theorem off2_eq : ∀ (i : grid3.Coords) (k : Fin k3_t1_loop.trips), k3_off2 i k = ![64 * row0 (row i k), 0] := by decide +kernel
theorem off5_eq : ∀ (i : grid3.Coords) (k : Fin k3_t1_loop.trips), k3_off5 i k = ![64 * row0 (row i k), 128] := by decide +kernel
theorem off3_eq : ∀ (i : grid3.Coords) (k : Fin k3_t1_loop.trips), k3_off3 i k = ![0, row0 (row i k) + 7 - row i k, 0, 0] := by decide +kernel
theorem off6_eq : ∀ (i : grid3.Coords) (k : Fin k3_t1_loop.trips), k3_off6 i k = ![1, row0 (row i k) + 7 - row i k, 0, 0] := by decide +kernel

end Cert.KernelIdeal.Trip

end
-- ==== Proof.RefIndex.lean ====
/-  The integer arrays of the reference: which lattice rows and lanes a query attends to, the relative offsets that index
    its bias table, and the three gathers read at these indices. -/
module

public import proofs.«01_k».proof.Proof.Gen.ReferenceIdeal.Read
public import proofs.«01_k».proof.Proof.Bias
public import proofs.«01_k».proof.Proof.Offsets
public import Idealize.ShloMosaic.Lib.Pointwise
public import Idealize.ShloMosaic.Lib.DynamicIndex

@[expose] public section

set_option maxRecDepth 16384

noncomputable section

namespace Cert.ReferenceIdeal.Index

open Idealize.ShloMosaic Cert.ReferenceIdeal Cert.ReferenceIdeal.Read
open Cert.KernelIdeal.Bias (start)
open Cert.KernelIdeal.Trip (row0)

/-- The lattice row of the `a`-th window row of row `r`. -/
theorem rows : ∀ (r : Fin 256) (a : Fin 8),
    (val_main_v54 (F := Ideal) (ix4 r a (0 : Fin 1) (0 : Fin 1)) : BitVec 32) = BitVec.ofNat 32 (row0 r.val + a.val) := by
  decide +kernel

/-- The lane of the `j`-th window lane of lane `w`. -/
theorem lanes : ∀ (w : Fin 64) (j : Fin 16),
    (val_main_v59 (F := Ideal) (ix4 (0 : Fin 1) (0 : Fin 1) w j) : BitVec 32) = BitVec.ofNat 32 (start w.val + j.val) := by
  decide +kernel

/-- The relative row offset that indexes the bias table. -/
theorem rowOffsets : ∀ (r : Fin 256) (a : Fin 8),
    (val_main_v90 (F := Ideal) (ix4 r a (0 : Fin 1) (0 : Fin 1)) : BitVec 32) = BitVec.ofNat 32 (row0 r.val + a.val + 7 - r.val) := by
  decide +kernel

/-- The relative lane offset that indexes the bias table. -/
theorem laneOffsets : ∀ (w : Fin 64) (j : Fin 16),
    (val_main_v95 (F := Ideal) (ix4 (0 : Fin 1) (0 : Fin 1) w j) : BitVec 32) = BitVec.ofNat 32 (start w.val + j.val + 15 - w.val) := by
  decide +kernel

/-- The pair of start indices at a query and a window place is the row and the lane. -/
theorem starts_row (r : Fin 256) (a : Fin 8) (w : Fin 64) (j : Fin 16) :
    (val_main_v64 (F := Ideal) (ix5 r a w j (0 : Fin 2)) : BitVec 32) = BitVec.ofNat 32 (row0 r.val + a.val) := by
  unfold val_main_v64
  refine (concatenate_pair_apply_left (s₁ := S256x8x64x16x1) (s₂ := S256x8x64x16x1) 4 _ _ _ (ix5 r a w j (0 : Fin 2)) rfl (ix5 r a w j (0 : Fin 1) : S256x8x64x16x1.Idx) ?_).trans ?_
  · intro b
    match b with | ⟨0, _⟩ => rfl | ⟨1, _⟩ => rfl | ⟨2, _⟩ => rfl | ⟨3, _⟩ => rfl | ⟨4, _⟩ => rfl
  · rw [val_main_v62_apply, val_main_v60_apply]
    exact (congrArg (val_main_v54 (F := Ideal)) (by funext b; match b with | ⟨0, _⟩ => rfl | ⟨1, _⟩ => rfl | ⟨2, _⟩ => rfl | ⟨3, _⟩ => rfl)).trans (rows r a)

theorem starts_lane (r : Fin 256) (a : Fin 8) (w : Fin 64) (j : Fin 16) :
    (val_main_v64 (F := Ideal) (ix5 r a w j (1 : Fin 2)) : BitVec 32) = BitVec.ofNat 32 (start w.val + j.val) := by
  unfold val_main_v64
  refine (concatenate_pair_apply_right (s₁ := S256x8x64x16x1) (s₂ := S256x8x64x16x1) 4 _ _ _ (ix5 r a w j (1 : Fin 2)) rfl rfl (ix5 r a w j (0 : Fin 1) : S256x8x64x16x1.Idx) ?_ rfl).trans ?_
  · intro b hb
    match b with | ⟨0, _⟩ => rfl | ⟨1, _⟩ => rfl | ⟨2, _⟩ => rfl | ⟨3, _⟩ => rfl | ⟨4, _⟩ => exact absurd rfl hb
  · rw [val_main_v63_apply, val_main_v61_apply]
    exact (congrArg (val_main_v59 (F := Ideal)) (by funext b; match b with | ⟨0, _⟩ => rfl | ⟨1, _⟩ => rfl | ⟨2, _⟩ => rfl | ⟨3, _⟩ => rfl)).trans (lanes w j)

/-- The values' gather starts at the same places as the keys'. -/
theorem starts_again : (val_main_v82 (F := Ideal)) = val_main_v64 (F := Ideal) := rfl

theorem offsets_row (r : Fin 256) (a : Fin 8) (w : Fin 64) (j : Fin 16) :
    (val_main_v100 (F := Ideal) (ix5 r a w j (0 : Fin 2)) : BitVec 32) = BitVec.ofNat 32 (row0 r.val + a.val + 7 - r.val) := by
  unfold val_main_v100
  refine (concatenate_pair_apply_left (s₁ := S256x8x64x16x1) (s₂ := S256x8x64x16x1) 4 _ _ _ (ix5 r a w j (0 : Fin 2)) rfl (ix5 r a w j (0 : Fin 1) : S256x8x64x16x1.Idx) ?_).trans ?_
  · intro b
    match b with | ⟨0, _⟩ => rfl | ⟨1, _⟩ => rfl | ⟨2, _⟩ => rfl | ⟨3, _⟩ => rfl | ⟨4, _⟩ => rfl
  · rw [val_main_v98_apply, val_main_v96_apply]
    exact (congrArg (val_main_v90 (F := Ideal)) (by funext b; match b with | ⟨0, _⟩ => rfl | ⟨1, _⟩ => rfl | ⟨2, _⟩ => rfl | ⟨3, _⟩ => rfl)).trans (rowOffsets r a)

theorem offsets_lane (r : Fin 256) (a : Fin 8) (w : Fin 64) (j : Fin 16) :
    (val_main_v100 (F := Ideal) (ix5 r a w j (1 : Fin 2)) : BitVec 32) = BitVec.ofNat 32 (start w.val + j.val + 15 - w.val) := by
  unfold val_main_v100
  refine (concatenate_pair_apply_right (s₁ := S256x8x64x16x1) (s₂ := S256x8x64x16x1) 4 _ _ _ (ix5 r a w j (1 : Fin 2)) rfl rfl (ix5 r a w j (0 : Fin 1) : S256x8x64x16x1.Idx) ?_ rfl).trans ?_
  · intro b hb
    match b with | ⟨0, _⟩ => rfl | ⟨1, _⟩ => rfl | ⟨2, _⟩ => rfl | ⟨3, _⟩ => rfl | ⟨4, _⟩ => exact absurd rfl hb
  · rw [val_main_v99_apply, val_main_v97_apply]
    exact (congrArg (val_main_v95 (F := Ideal)) (by funext b; match b with | ⟨0, _⟩ => rfl | ⟨1, _⟩ => rfl | ⟨2, _⟩ => rfl | ⟨3, _⟩ => rfl)).trans (laneOffsets w j)

/-- The gather of the keys (or values): at a query, a window place, a head and a coordinate it is the operand at the
    window place's row and lane. -/
theorem gather_rows {α : Type} (x : S256x64x32x128.Idx → α) (idx : IVec S256x8x64x16x2 32) (r : Fin 256) (a : Fin 8)
    (w : Fin 64) (j : Fin 16) (h : Fin 32) (d : Fin 128) (R : Fin 256) (C : Fin 64)
    (hR : idx (ix5 r a w j (0 : Fin 2)) = BitVec.ofNat 32 R.val) (hC : idx (ix5 r a w j (1 : Fin 2)) = BitVec.ofNat 32 C.val) :
    Host.gather gather_S256x64x32x128_S256x8x64x16x2_S256x8x64x16x32x128_45_01_n_n_01_4_1132128 x idx (ix6 r a w j h d)
      = x (ix4 R C h d) := by
  unfold Host.gather
  congr 1
  funext b
  refine Fin.ext ?_
  match b with
  | ⟨0, _⟩ =>
    show min (idx (GatherDims.siIdx gather_S256x64x32x128_S256x8x64x16x2_S256x8x64x16x32x128_45_01_n_n_01_4_1132128 (ix6 r a w j h d) ⟨0, by decide⟩)).toInt.toNat 255 + 0 + 0 = R.val
    rw [show GatherDims.siIdx gather_S256x64x32x128_S256x8x64x16x2_S256x8x64x16x32x128_45_01_n_n_01_4_1132128 (ix6 r a w j h d) ⟨0, by decide⟩ = ix5 r a w j (0 : Fin 2) from by
      funext c; match c with | ⟨0, _⟩ => rfl | ⟨1, _⟩ => rfl | ⟨2, _⟩ => rfl | ⟨3, _⟩ => rfl | ⟨4, _⟩ => rfl, hR, toInt_ofNat_of_lt (by omega)]
    omega
  | ⟨1, _⟩ =>
    show min (idx (GatherDims.siIdx gather_S256x64x32x128_S256x8x64x16x2_S256x8x64x16x32x128_45_01_n_n_01_4_1132128 (ix6 r a w j h d) ⟨1, by decide⟩)).toInt.toNat 63 + 0 + 0 = C.val
    rw [show GatherDims.siIdx gather_S256x64x32x128_S256x8x64x16x2_S256x8x64x16x32x128_45_01_n_n_01_4_1132128 (ix6 r a w j h d) ⟨1, by decide⟩ = ix5 r a w j (1 : Fin 2) from by
      funext c; match c with | ⟨0, _⟩ => rfl | ⟨1, _⟩ => rfl | ⟨2, _⟩ => rfl | ⟨3, _⟩ => rfl | ⟨4, _⟩ => rfl, hC, toInt_ofNat_of_lt (by omega)]
    omega
  | ⟨2, _⟩ => exact Nat.zero_add _
  | ⟨3, _⟩ => exact Nat.zero_add _

/-- The gather of the bias table: at a head, a query and a window place it is the table at the relative offsets. -/
theorem gather_bias {α : Type} (x : S32x15x31.Idx → α) (idx : IVec S256x8x64x16x2 32) (r : Fin 256) (a : Fin 8)
    (w : Fin 64) (j : Fin 16) (h : Fin 32) (R : Fin 15) (C : Fin 31)
    (hR : idx (ix5 r a w j (0 : Fin 2)) = BitVec.ofNat 32 R.val) (hC : idx (ix5 r a w j (1 : Fin 2)) = BitVec.ofNat 32 C.val) :
    Host.gather gather_S32x15x31_S256x8x64x16x2_S32x256x8x64x16_0_12_n_n_12_4_3211 x idx (ix5 h r a w j)
      = x (ix3 h R C) := by
  unfold Host.gather
  congr 1
  funext b
  refine Fin.ext ?_
  match b with
  | ⟨0, _⟩ => exact Nat.zero_add _
  | ⟨1, _⟩ =>
    show min (idx (GatherDims.siIdx gather_S32x15x31_S256x8x64x16x2_S32x256x8x64x16_0_12_n_n_12_4_3211 (ix5 h r a w j) ⟨0, by decide⟩)).toInt.toNat 14 + 0 + 0 = R.val
    rw [show GatherDims.siIdx gather_S32x15x31_S256x8x64x16x2_S32x256x8x64x16_0_12_n_n_12_4_3211 (ix5 h r a w j) ⟨0, by decide⟩ = ix5 r a w j (0 : Fin 2) from by
      funext c; match c with | ⟨0, _⟩ => rfl | ⟨1, _⟩ => rfl | ⟨2, _⟩ => rfl | ⟨3, _⟩ => rfl | ⟨4, _⟩ => rfl, hR, toInt_ofNat_of_lt (by omega)]
    omega
  | ⟨2, _⟩ =>
    show min (idx (GatherDims.siIdx gather_S32x15x31_S256x8x64x16x2_S32x256x8x64x16_0_12_n_n_12_4_3211 (ix5 h r a w j) ⟨1, by decide⟩)).toInt.toNat 30 + 0 + 0 = C.val
    rw [show GatherDims.siIdx gather_S32x15x31_S256x8x64x16x2_S32x256x8x64x16_0_12_n_n_12_4_3211 (ix5 h r a w j) ⟨1, by decide⟩ = ix5 r a w j (1 : Fin 2) from by
      funext c; match c with | ⟨0, _⟩ => rfl | ⟨1, _⟩ => rfl | ⟨2, _⟩ => rfl | ⟨3, _⟩ => rfl | ⟨4, _⟩ => rfl, hC, toInt_ofNat_of_lt (by omega)]
    omega

/-- The row and the lane of a window place. -/
def winRow (r : Fin 256) (a : Fin 8) : Fin 256 := ⟨row0 r.val + a.val, by unfold row0; omega⟩
def winLane (w : Fin 64) (j : Fin 16) : Fin 64 := ⟨start w.val + j.val, by unfold start; omega⟩
/-- Their offsets from the query's own, shifted to the bias table's indices. -/
def offRow (r : Fin 256) (a : Fin 8) : Fin 15 := ⟨row0 r.val + a.val + 7 - r.val, by unfold row0; omega⟩
def offLane (w : Fin 64) (j : Fin 16) : Fin 31 := ⟨start w.val + j.val + 15 - w.val, by unfold start; omega⟩

theorem keys_at (x0 : FVec Ideal S16384x4096 .bf16) (x2 : FVec Ideal S4096x12288 .f32) (r : Fin 256) (a : Fin 8)
    (w : Fin 64) (j : Fin 16) (h : Fin 32) (d : Fin 128) :
    val_main_v65 (F := Ideal) x0 x2 (ix6 r a w j h d) = val_main_v6 (F := Ideal) x0 x2 (ix4 (winRow r a) (winLane w j) h d) :=
  gather_rows _ _ r a w j h d (winRow r a) (winLane w j) (starts_row r a w j) (starts_lane r a w j)

theorem values_at (x0 : FVec Ideal S16384x4096 .bf16) (x2 : FVec Ideal S4096x12288 .f32) (r : Fin 256) (a : Fin 8)
    (w : Fin 64) (j : Fin 16) (h : Fin 32) (d : Fin 128) :
    val_main_v83 (F := Ideal) x0 x2 (ix6 r a w j h d) = val_main_v8 (F := Ideal) x0 x2 (ix4 (winRow r a) (winLane w j) h d) := by
  unfold val_main_v83
  rw [starts_again]
  exact gather_rows _ _ r a w j h d (winRow r a) (winLane w j) (starts_row r a w j) (starts_lane r a w j)

theorem bias_at (x4 : FVec Ideal S32x15x31 .f32) (r : Fin 256) (a : Fin 8) (w : Fin 64) (j : Fin 16) (h : Fin 32) :
    val_main_v101 (F := Ideal) x4 (ix5 h r a w j) = x4 (ix3 h (offRow r a) (offLane w j)) :=
  gather_bias _ _ r a w j h (offRow r a) (offLane w j) (offsets_row r a w j) (offsets_lane r a w j)

end Cert.ReferenceIdeal.Index
-- ==== Proof.Softmax.lean ====
/-  The algebra of one softmax row: a weighted mean whose divisor is applied once at the end, over a wide row of which
    all but a window is masked by `⊥`, is the softmax mean over the window. -/
module

public import Idealize.ShloMosaic.PureOps
public import Idealize.ShloMosaic.PureOps.Ideal.Laws

@[expose] public section

set_option maxRecDepth 16384

noncomputable section

namespace Cert.Attn

open Idealize.ShloMosaic

variable {ι κ μ : Type} [Fintype ι] [Fintype κ] [Fintype μ]

/-- The larger of the two rows' maxima. -/
def top (s : ι → EReal) (c : μ → EReal) : EReal := max (Finset.univ.sup s) (Finset.univ.sup c)

/-- The softmax divisor of a row in two parts. -/
def mass (s : ι → EReal) (c : μ → EReal) : EReal :=
  ∑ j, Ideal.exp (s j - top s c) + ∑ n, Ideal.exp (c n - top s c)

/-- The weighted mean with the divisor applied once, to the finished sum. -/
def late (s : ι → EReal) (c : μ → EReal) (v : ι → EReal) (w : μ → EReal) : EReal :=
  Ideal.div (∑ j, Ideal.exp (s j - top s c) * v j + ∑ n, Ideal.exp (c n - top s c) * w n) (mass s c)

/-- The weighted mean with every weight divided first (the softmax as it is defined). -/
def early (s : ι → EReal) (c : μ → EReal) (v : ι → EReal) (w : μ → EReal) : EReal :=
  ∑ j, Ideal.div (Ideal.exp (s j - top s c)) (mass s c) * v j
    + ∑ n, Ideal.div (Ideal.exp (c n - top s c)) (mass s c) * w n

/-- Masked entries do not move a maximum. -/
theorem sup_window (e : κ → ι) (s : ι → EReal) (h0 : ∀ j, j ∉ Set.range e → s j = ⊥) :
    Finset.univ.sup s = Finset.univ.sup (fun x => s (e x)) := by
  apply le_antisymm
  · refine Finset.sup_le fun j _ => ?_
    by_cases hj : j ∈ Set.range e
    · obtain ⟨x, rfl⟩ := hj
      exact Finset.le_sup (f := fun x => s (e x)) (Finset.mem_univ x)
    · rw [h0 j hj]; exact bot_le
  · exact Finset.sup_le fun x _ => Finset.le_sup (f := s) (Finset.mem_univ (e x))

/-- The larger maximum of real rows, one of them not empty, is a real. -/
theorem top_real [Nonempty μ] (s : κ → ℝ) (c : μ → ℝ) :
    ∃ M : ℝ, top (fun x => (s x : EReal)) (fun n => (c n : EReal)) = M := by
  have hlt : top (fun x => (s x : EReal)) (fun n => (c n : EReal)) < ⊤ := by
    unfold top
    rw [max_lt_iff]
    exact ⟨(Finset.sup_lt_iff bot_lt_top).2 fun x _ => EReal.coe_lt_top _,
      (Finset.sup_lt_iff bot_lt_top).2 fun x _ => EReal.coe_lt_top _⟩
  have hgt : ⊥ < top (fun x => (s x : EReal)) (fun n => (c n : EReal)) := by
    obtain ⟨n⟩ := ‹Nonempty μ›
    refine lt_of_lt_of_le (EReal.bot_lt_coe (c n)) (le_max_of_le_right ?_)
    exact Finset.le_sup (f := fun n => (c n : EReal)) (Finset.mem_univ n)
  exact ⟨_, (EReal.coe_toReal hlt.ne hgt.ne').symm⟩

/-- A real less a real, under the exponential. -/
theorem exp_sub_real (x M : ℝ) : Ideal.exp ((x : EReal) - (M : EReal)) = ((Real.exp (x - M) : ℝ) : EReal) := by
  rw [← EReal.coe_sub]; rfl

/-- A masked entry has no weight. -/
theorem exp_bot_sub (M : ℝ) : Ideal.exp ((⊥ : EReal) - (M : EReal)) = 0 := by
  rw [EReal.bot_sub]; rfl

/-- A finite sum of reals is a real. -/
theorem sum_coe (f : ι → ℝ) : ∑ j, ((f j : ℝ) : EReal) = ((∑ j, f j : ℝ) : EReal) := by
  classical
  induction (Finset.univ : Finset ι) using Finset.induction_on with
  | empty => simp
  | insert a s ha ih => rw [Finset.sum_insert ha, Finset.sum_insert ha, ih, EReal.coe_add]

/-- Division of reals by a positive real. -/
theorem div_real (x L : ℝ) (hL : 0 < L) : Ideal.div (x : EReal) (L : EReal) = ((x / L : ℝ) : EReal) := by
  have h : (L : EReal) ≠ 0 := by exact_mod_cast hL.ne'
  rw [Ideal.div, if_neg h, ← EReal.coe_inv, ← EReal.coe_mul, div_eq_mul_inv]

/-- For real rows it does not matter when the divisor is applied. -/
theorem late_eq_early [Nonempty μ] (s : κ → ℝ) (c : μ → ℝ) (v : κ → ℝ) (w : μ → ℝ) :
    late (fun x => (s x : EReal)) (fun n => (c n : EReal)) (fun x => (v x : EReal)) (fun n => (w n : EReal))
      = early (fun x => (s x : EReal)) (fun n => (c n : EReal)) (fun x => (v x : EReal)) (fun n => (w n : EReal)) := by
  obtain ⟨M, hM⟩ := top_real s c
  have hL : 0 < ∑ x, Real.exp (s x - M) + ∑ n, Real.exp (c n - M) := by
    refine add_pos_of_nonneg_of_pos (Finset.sum_nonneg fun _ _ => (Real.exp_pos _).le) ?_
    exact Finset.sum_pos (fun _ _ => Real.exp_pos _) Finset.univ_nonempty
  unfold late early mass
  simp only [hM, exp_sub_real, sum_coe, ← EReal.coe_add, ← EReal.coe_mul, div_real _ _ hL]
  congr 1
  rw [add_div, Finset.sum_div, Finset.sum_div]
  congr 1 <;> exact Finset.sum_congr rfl fun _ _ => by ring

/-- A wide row, masked off an injective window `e`, averages as the window does; the values off the window may be
    anything. -/
theorem late_window [Nonempty μ] (e : κ → ι) (he : Function.Injective e) (s : ι → EReal) (v : ι → EReal)
    (h0 : ∀ j, j ∉ Set.range e → s j = ⊥) (s' : κ → ℝ) (hs : ∀ x, s (e x) = s' x) (c : μ → ℝ) (w : μ → EReal) :
    late s (fun n => (c n : EReal)) v w
      = late (fun x => (s' x : EReal)) (fun n => (c n : EReal)) (fun x => v (e x)) w := by
  have ht : top s (fun n => (c n : EReal)) = top (fun x => (s' x : EReal)) (fun n => (c n : EReal)) := by
    unfold top; rw [sup_window e s h0]; simp only [hs]
  obtain ⟨M, hM⟩ := top_real s' c
  unfold late mass
  rw [ht, hM]
  have h1 : ∑ j, Ideal.exp (s j - M) = ∑ x, Ideal.exp ((s' x : EReal) - M) :=
    (Fintype.sum_of_injective e he _ _ (fun j hj => by rw [h0 j hj, exp_bot_sub]) (fun x => by rw [hs])).symm
  have h2 : ∑ j, Ideal.exp (s j - M) * v j = ∑ x, Ideal.exp ((s' x : EReal) - M) * v (e x) :=
    (Fintype.sum_of_injective e he _ _ (fun j hj => by rw [h0 j hj, exp_bot_sub, zero_mul]) (fun x => by rw [hs])).symm
  rw [h1, h2]

/-- The whole law: the masked wide row with one late division is the softmax mean over the window. -/
theorem late_window_eq_early [Nonempty μ] (e : κ → ι) (he : Function.Injective e) (s : ι → EReal) (v : ι → EReal)
    (h0 : ∀ j, j ∉ Set.range e → s j = ⊥) (s' : κ → ℝ) (hs : ∀ x, s (e x) = s' x) (c : μ → ℝ) (v' : κ → ℝ)
    (hv : ∀ x, v (e x) = v' x) (w : μ → ℝ) :
    late s (fun n => (c n : EReal)) v (fun n => (w n : EReal))
      = early (fun x => (s' x : EReal)) (fun n => (c n : EReal)) (fun x => (v' x : EReal)) (fun n => (w n : EReal)) := by
  rw [late_window e he s v h0 s' hs c]
  simp only [hv]
  exact late_eq_early s' c v' w

end Cert.Attn

end
-- ==== Proof.RefScores.lean ====
/-  The reference's queries, keys, values and scores at an index, from its two projections. -/
module

public import proofs.«01_k».proof.Proof.RefIndex
public import proofs.«01_k».proof.Proof.Softmax

@[expose] public section

set_option maxRecDepth 16384

noncomputable section

namespace Cert.ReferenceIdeal.Scores

open Idealize.ShloMosaic Cert.ReferenceIdeal Cert.ReferenceIdeal.Read Cert.ReferenceIdeal.Index

/-- The token of a lattice row and lane. -/
def tok (r : Fin 256) (w : Fin 64) : Fin 16384 := ⟨64 * r.val + w.val, by omega⟩
/-- The column of a head's coordinate among the queries, the keys and the values. -/
def qCol (h : Fin 32) (d : Fin 128) : Fin 12288 := ⟨128 * h.val + d.val, by omega⟩
def kCol (h : Fin 32) (d : Fin 128) : Fin 12288 := ⟨4096 + 128 * h.val + d.val, by omega⟩
def vCol (h : Fin 32) (d : Fin 128) : Fin 12288 := ⟨8192 + 128 * h.val + d.val, by omega⟩

section Parts
variable (x0 : FVec Ideal S16384x4096 .bf16) (x1 : FVec Ideal S256x4096 .bf16) (x2 : FVec Ideal S4096x12288 .f32)
  (x4 : FVec Ideal S32x15x31 .f32)

theorem q_at (r : Fin 256) (w : Fin 64) (h : Fin 32) (d : Fin 128) :
    val_main_v4 (F := Ideal) x0 x2 (ix4 r w h d) = val_main_v1 (F := Ideal) x0 x2 (ix2 (tok r w) (qCol h d)) := by
  rw [val_main_v4_apply, val_main_v3_apply, val_main_v2_apply]
  refine congrArg (val_main_v1 (F := Ideal) x0 x2) ?_
  funext b
  refine Fin.ext ?_
  match b with
  | ⟨0, _⟩ => dsimp [ix4, ix2, tok, qCol]; omega
  | ⟨1, _⟩ => dsimp [ix4, ix2, tok, qCol]; omega

theorem k_at (r : Fin 256) (w : Fin 64) (h : Fin 32) (d : Fin 128) :
    val_main_v6 (F := Ideal) x0 x2 (ix4 r w h d) = val_main_v1 (F := Ideal) x0 x2 (ix2 (tok r w) (kCol h d)) := by
  rw [val_main_v6_apply, val_main_v5_apply, val_main_v2_apply]
  refine congrArg (val_main_v1 (F := Ideal) x0 x2) ?_
  funext b
  refine Fin.ext ?_
  match b with
  | ⟨0, _⟩ => dsimp [ix4, ix2, tok, kCol]; omega
  | ⟨1, _⟩ => dsimp [ix4, ix2, tok, kCol]; omega

theorem v_at (r : Fin 256) (w : Fin 64) (h : Fin 32) (d : Fin 128) :
    val_main_v8 (F := Ideal) x0 x2 (ix4 r w h d) = val_main_v1 (F := Ideal) x0 x2 (ix2 (tok r w) (vCol h d)) := by
  rw [val_main_v8_apply, val_main_v7_apply, val_main_v2_apply]
  refine congrArg (val_main_v1 (F := Ideal) x0 x2) ?_
  funext b
  refine Fin.ext ?_
  match b with
  | ⟨0, _⟩ => dsimp [ix4, ix2, tok, vCol]; omega
  | ⟨1, _⟩ => dsimp [ix4, ix2, tok, vCol]; omega

theorem kc_at (n : Fin 256) (h : Fin 32) (d : Fin 128) :
    val_main_v13 (F := Ideal) x1 x2 (ix3 n h d) = val_main_v10 (F := Ideal) x1 x2 (ix2 n (kCol h d)) := by
  rw [val_main_v13_apply, val_main_v12_apply, val_main_v11_apply]
  refine congrArg (val_main_v10 (F := Ideal) x1 x2) ?_
  funext b
  refine Fin.ext ?_
  match b with
  | ⟨0, _⟩ => dsimp [ix3, ix2, kCol]; omega
  | ⟨1, _⟩ => dsimp [ix3, ix2, kCol]; omega

theorem vc_at (n : Fin 256) (h : Fin 32) (d : Fin 128) :
    val_main_v15 (F := Ideal) x1 x2 (ix3 n h d) = val_main_v10 (F := Ideal) x1 x2 (ix2 n (vCol h d)) := by
  rw [val_main_v15_apply, val_main_v14_apply, val_main_v11_apply]
  refine congrArg (val_main_v10 (F := Ideal) x1 x2) ?_
  funext b
  refine Fin.ext ?_
  match b with
  | ⟨0, _⟩ => dsimp [ix3, ix2, vCol]; omega
  | ⟨1, _⟩ => dsimp [ix3, ix2, vCol]; omega

/-- The attention's scale, the reciprocal of the root of the head width as it is rounded. -/
def scale : EReal := Scalar.ofBits (F := Ideal) .f32 0x3DB504F3#32

/-- The score of a query against a window place. -/
def winScore (r : Fin 256) (w : Fin 64) (h : Fin 32) (a : Fin 8) (j : Fin 16) : EReal :=
  (∑ d : Fin 128, val_main_v1 (F := Ideal) x0 x2 (ix2 (tok r w) (qCol h d))
      * val_main_v1 (F := Ideal) x0 x2 (ix2 (tok (winRow r a) (winLane w j)) (kCol h d))) * scale
    + x4 (ix3 h (offRow r a) (offLane w j))

/-- The score of a query against a context position. -/
def ctxScore (r : Fin 256) (w : Fin 64) (h : Fin 32) (n : Fin 256) : EReal :=
  (∑ d : Fin 128, val_main_v1 (F := Ideal) x0 x2 (ix2 (tok r w) (qCol h d))
      * val_main_v10 (F := Ideal) x1 x2 (ix2 n (kCol h d))) * scale

theorem winScore_at (r : Fin 256) (w : Fin 64) (h : Fin 32) (a : Fin 8) (j : Fin 16) :
    val_main_v106 (F := Ideal) x0 x2 x4 (ix5 r w h a j) = winScore x0 x2 x4 r w h a j := by
  rw [val_main_v106_apply, val_main_v105_apply, val_main_v103_apply, val_main_v104_apply, val_main_v102_apply]
  refine congrArg₂ (fun p q : EReal => p + q) (congrArg₂ (fun p q : EReal => p * q) (Finset.sum_congr rfl fun d _ => congrArg₂ (fun p q : EReal => p * q) ?_ ?_) rfl) ?_
  · exact (congrArg (val_main_v4 (F := Ideal) x0 x2) (by funext b; match b with | ⟨0, _⟩ => rfl | ⟨1, _⟩ => rfl | ⟨2, _⟩ => rfl | ⟨3, _⟩ => rfl)).trans (q_at x0 x2 r w h d)
  · exact (congrArg (val_main_v65 (F := Ideal) x0 x2) (by funext b; match b with | ⟨0, _⟩ => rfl | ⟨1, _⟩ => rfl | ⟨2, _⟩ => rfl | ⟨3, _⟩ => rfl | ⟨4, _⟩ => rfl | ⟨5, _⟩ => rfl)).trans ((keys_at x0 x2 r a w j h d).trans (k_at x0 x2 _ _ h d))
  · exact (congrArg (val_main_v101 (F := Ideal) x4) (by funext b; match b with | ⟨0, _⟩ => rfl | ⟨1, _⟩ => rfl | ⟨2, _⟩ => rfl | ⟨3, _⟩ => rfl | ⟨4, _⟩ => rfl)).trans (bias_at x4 r a w j h)

theorem ctxScore_at (r : Fin 256) (w : Fin 64) (h : Fin 32) (n : Fin 256) :
    val_main_v110 (F := Ideal) x0 x1 x2 (ix4 r w h n) = ctxScore x0 x1 x2 r w h n := by
  rw [val_main_v110_apply, val_main_v108_apply, val_main_v107_apply, val_main_v109_apply]
  refine congrArg₂ (fun p q : EReal => p * q) (Finset.sum_congr rfl fun d _ => (mul_comm _ _).trans (congrArg₂ (fun p q : EReal => p * q) ?_ ?_)) rfl
  · exact (congrArg (val_main_v4 (F := Ideal) x0 x2) (by funext b; match b with | ⟨0, _⟩ => rfl | ⟨1, _⟩ => rfl | ⟨2, _⟩ => rfl | ⟨3, _⟩ => rfl)).trans (q_at x0 x2 r w h d)
  · exact (congrArg (val_main_v13 (F := Ideal) x1 x2) (by funext b; match b with | ⟨0, _⟩ => rfl | ⟨1, _⟩ => rfl | ⟨2, _⟩ => rfl)).trans (kc_at x1 x2 n h d)

/-- The scores' row: the window's places first. -/
theorem row_window (r : Fin 256) (w : Fin 64) (h : Fin 32) (k : Fin 128) :
    val_main_v112 (F := Ideal) x0 x1 x2 x4 (ix4 r w h (⟨k.val, by omega⟩ : Fin 384))
      = winScore x0 x2 x4 r w h ⟨k.val / 16, by omega⟩ ⟨k.val % 16, by omega⟩ := by
  unfold val_main_v112
  refine (concatenate_pair_apply_left (s₁ := S256x64x32x128) (s₂ := S256x64x32x256) 3 _ _ _ (ix4 r w h (⟨k.val, by omega⟩ : Fin 384)) rfl (ix4 r w h k) ?_).trans ?_
  · intro b
    match b with | ⟨0, _⟩ => rfl | ⟨1, _⟩ => rfl | ⟨2, _⟩ => rfl | ⟨3, _⟩ => rfl
  · rw [val_main_v111_apply]
    refine (congrArg (val_main_v106 (F := Ideal) x0 x2 x4) ?_).trans (winScore_at x0 x2 x4 r w h ⟨k.val / 16, by omega⟩ ⟨k.val % 16, by omega⟩)
    funext b
    refine Fin.ext ?_
    match b with
    | ⟨0, _⟩ => dsimp [ix4, ix5]; omega
    | ⟨1, _⟩ => dsimp [ix4, ix5]; omega
    | ⟨2, _⟩ => dsimp [ix4, ix5]; omega
    | ⟨3, _⟩ => dsimp [ix4, ix5]; omega
    | ⟨4, _⟩ => dsimp [ix4, ix5]; omega

/-- Then the context's positions. -/
theorem row_context (r : Fin 256) (w : Fin 64) (h : Fin 32) (n : Fin 256) :
    val_main_v112 (F := Ideal) x0 x1 x2 x4 (ix4 r w h (⟨128 + n.val, by omega⟩ : Fin 384))
      = ctxScore x0 x1 x2 r w h n := by
  unfold val_main_v112
  refine (concatenate_pair_apply_right (s₁ := S256x64x32x128) (s₂ := S256x64x32x256) 3 _ _ _ (ix4 r w h (⟨128 + n.val, by omega⟩ : Fin 384)) rfl rfl (ix4 r w h n) ?_ (Nat.add_comm _ _)).trans (ctxScore_at x0 x1 x2 r w h n)
  intro b hb
  match b with | ⟨0, _⟩ => rfl | ⟨1, _⟩ => rfl | ⟨2, _⟩ => rfl | ⟨3, _⟩ => exact absurd rfl hb

end Parts

end Cert.ReferenceIdeal.Scores
-- ==== Proof.RefValue.lean ====
/-  The reference's softmax and its result at an index: over the window's and the context's scores of a query the
    weighted mean of the values, projected. -/
module

public import proofs.«01_k».proof.Proof.RefScores
public import Idealize.ShloMosaic.Lib.TwoAxisContraction

@[expose] public section

set_option maxRecDepth 16384

noncomputable section

namespace Cert.ReferenceIdeal.Result

open Idealize.ShloMosaic Cert.ReferenceIdeal Cert.ReferenceIdeal.Read Cert.ReferenceIdeal.Index Cert.ReferenceIdeal.Scores
open Cert.Attn

/-- A sum over a row of 384 is the sum over its first 128 entries and over its last 256. -/
theorem sum_split (f : Fin 384 → EReal) :
    ∑ k, f k = ∑ k : Fin 128, f ⟨k.val, by omega⟩ + ∑ n : Fin 256, f ⟨128 + n.val, by omega⟩ :=
  Fin.sum_univ_add (a := 128) (b := 256) f

/-- A maximum over a row of 384 is the larger of the maxima of its two parts. -/
theorem sup_split (f : Fin 384 → EReal) :
    Finset.univ.sup f = max (Finset.univ.sup fun k : Fin 128 => f ⟨k.val, by omega⟩) (Finset.univ.sup fun n : Fin 256 => f ⟨128 + n.val, by omega⟩) := by
  apply le_antisymm
  · refine Finset.sup_le fun k _ => ?_
    by_cases hk : k.val < 128
    · exact le_max_of_le_left (Finset.le_sup (f := fun k : Fin 128 => f ⟨k.val, by omega⟩) (Finset.mem_univ (⟨k.val, hk⟩ : Fin 128)))
    · have e : k = (⟨128 + (k.val - 128), by omega⟩ : Fin 384) := Fin.ext (by show k.val = 128 + (k.val - 128); omega)
      refine le_max_of_le_right ?_
      rw [e]
      exact Finset.le_sup (f := fun n : Fin 256 => f ⟨128 + n.val, by omega⟩) (Finset.mem_univ (⟨k.val - 128, by omega⟩ : Fin 256))
  · exact max_le (Finset.sup_le fun k _ => Finset.le_sup (f := f) (Finset.mem_univ _)) (Finset.sup_le fun k _ => Finset.le_sup (f := f) (Finset.mem_univ _))

/-- A sum over the window's rows and lanes is the sum over its places in row-major order. -/
theorem sum_window (f : Fin 8 → Fin 16 → EReal) :
    ∑ a, ∑ j, f a j = ∑ k : Fin 128, f ⟨k.val / 16, by omega⟩ ⟨k.val % 16, by omega⟩ := by
  rw [← Fintype.sum_prod_type' f, ← Equiv.sum_comp (finProdFinEquiv (m := 8) (n := 16)).symm]
  rfl

section Parts
variable (x0 : FVec Ideal S16384x4096 .bf16) (x1 : FVec Ideal S256x4096 .bf16) (x2 : FVec Ideal S4096x12288 .f32)
  (x3 : FVec Ideal S4096x4096 .f32) (x4 : FVec Ideal S32x15x31 .f32)

/-- A query's window scores by the place's row-major number, and the values there. -/
def winAt (r : Fin 256) (w : Fin 64) (h : Fin 32) (k : Fin 128) : EReal :=
  winScore x0 x2 x4 r w h ⟨k.val / 16, by omega⟩ ⟨k.val % 16, by omega⟩
def valAt (r : Fin 256) (w : Fin 64) (h : Fin 32) (d : Fin 128) (k : Fin 128) : EReal :=
  val_main_v1 (F := Ideal) x0 x2 (ix2 (tok (winRow r ⟨k.val / 16, by omega⟩) (winLane w ⟨k.val % 16, by omega⟩)) (vCol h d))
def ctxValAt (h : Fin 32) (d : Fin 128) (n : Fin 256) : EReal :=
  val_main_v10 (F := Ideal) x1 x2 (ix2 n (vCol h d))

theorem ofBits_neg_inf : Ideal.ofBits .f32 0xFF800000#32 = (⊥ : EReal) := by
  simp [Ideal.ofBits, Ideal.ieee]

theorem peak_at (r : Fin 256) (w : Fin 64) (h : Fin 32) :
    val_main_v115 (F := Ideal) x0 x1 x2 x4 (ix3 r w h) = top (winAt x0 x2 x4 r w h) (ctxScore x0 x1 x2 r w h) := by
  rw [val_main_v115_apply, val_main_v114_apply]
  unfold val_main_v113
  rw [Host.reduce_eq_fold_single (s := S256x64x32x384) (t := S256x64x32) (a := (3 : Fin 4)) _ _ _ Gen.reducesTo_S256x64x32x384_S256x64x32_d3 (by decide) Gen.h_S_]
  show max (Ideal.ofBits .f32 0xFF800000#32) (Finset.fold max (Ideal.ofBits .f32 0xFF800000#32) _ _) = _
  rw [ofBits_neg_inf, bot_sup_eq]
  show Finset.univ.sup (fun k : Fin 384 => _) = _
  refine (sup_split _).trans ?_
  unfold top
  refine congrArg₂ max (congrArg (Finset.sup _) (funext fun k => ?_)) (congrArg (Finset.sup _) (funext fun n => ?_))
  · refine Eq.trans ?_ (row_window x0 x1 x2 x4 r w h k)
    exact congrArg (val_main_v112 (F := Ideal) x0 x1 x2 x4) (by funext b; refine Fin.ext ?_; match b with | ⟨0, _⟩ => rfl | ⟨1, _⟩ => rfl | ⟨2, _⟩ => rfl | ⟨3, _⟩ => rfl)
  · refine Eq.trans ?_ (row_context x0 x1 x2 x4 r w h n)
    exact congrArg (val_main_v112 (F := Ideal) x0 x1 x2 x4) (by funext b; refine Fin.ext ?_; match b with | ⟨0, _⟩ => rfl | ⟨1, _⟩ => rfl | ⟨2, _⟩ => rfl | ⟨3, _⟩ => rfl)

/-- A score's exponential, taken from the row's maximum. -/
theorem exp_at (r : Fin 256) (w : Fin 64) (h : Fin 32) (k : Fin 384) :
    val_main_v119 (F := Ideal) x0 x1 x2 x4 (ix4 r w h k)
      = Ideal.exp (val_main_v112 (F := Ideal) x0 x1 x2 x4 (ix4 r w h k) - top (winAt x0 x2 x4 r w h) (ctxScore x0 x1 x2 r w h)) := by
  rw [val_main_v119_apply, val_main_v118_apply, val_main_v117_apply, val_main_v116_apply]
  refine congrArg (fun z : EReal => Ideal.exp (val_main_v112 (F := Ideal) x0 x1 x2 x4 (ix4 r w h k) - z)) ?_
  refine Eq.trans ?_ (peak_at x0 x1 x2 x4 r w h)
  exact congrArg (val_main_v115 (F := Ideal) x0 x1 x2 x4) (by funext b; match b with | ⟨0, _⟩ => rfl | ⟨1, _⟩ => rfl | ⟨2, _⟩ => rfl)

/-- The softmax's divisor. -/
theorem mass_at (r : Fin 256) (w : Fin 64) (h : Fin 32) :
    val_main_v120 (F := Ideal) x0 x1 x2 x4 (ix3 r w h) = mass (winAt x0 x2 x4 r w h) (ctxScore x0 x1 x2 r w h) := by
  rw [val_main_v120_apply]
  have hz : (val_main_cst_22 (F := Ideal)) (Shape.Idx.first Gen.h_S_) = (0 : EReal) := by
    show Ideal.ofBits .f32 0x00000000#32 = 0
    simp [Ideal.ofBits, Ideal.ieee]
  rw [hz, zero_add]
  refine (sum_split _).trans ?_
  unfold mass
  refine congrArg₂ (fun p q : EReal => p + q) (Finset.sum_congr rfl fun k _ => ?_) (Finset.sum_congr rfl fun n _ => ?_)
  · refine Eq.trans (congrArg (val_main_v119 (F := Ideal) x0 x1 x2 x4) (a₂ := ix4 r w h (⟨k.val, by omega⟩ : Fin 384)) (by funext b; match b with | ⟨0, _⟩ => rfl | ⟨1, _⟩ => rfl | ⟨2, _⟩ => rfl | ⟨3, _⟩ => rfl)) ?_
    rw [exp_at, row_window]
    rfl
  · refine Eq.trans (congrArg (val_main_v119 (F := Ideal) x0 x1 x2 x4) (a₂ := ix4 r w h (⟨128 + n.val, by omega⟩ : Fin 384)) (by funext b; match b with | ⟨0, _⟩ => rfl | ⟨1, _⟩ => rfl | ⟨2, _⟩ => rfl | ⟨3, _⟩ => rfl)) ?_
    rw [exp_at, row_context]

/-- A softmax weight. -/
theorem weight_at (r : Fin 256) (w : Fin 64) (h : Fin 32) (k : Fin 384) :
    val_main_v123 (F := Ideal) x0 x1 x2 x4 (ix4 r w h k)
      = Ideal.div (Ideal.exp (val_main_v112 (F := Ideal) x0 x1 x2 x4 (ix4 r w h k) - top (winAt x0 x2 x4 r w h) (ctxScore x0 x1 x2 r w h)))
          (mass (winAt x0 x2 x4 r w h) (ctxScore x0 x1 x2 r w h)) := by
  rw [val_main_v123_apply, val_main_v122_apply, val_main_v121_apply, exp_at]
  refine congrArg (Ideal.div _) ?_
  refine Eq.trans ?_ (mass_at x0 x1 x2 x4 r w h)
  exact congrArg (val_main_v120 (F := Ideal) x0 x1 x2 x4) (by funext b; match b with | ⟨0, _⟩ => rfl | ⟨1, _⟩ => rfl | ⟨2, _⟩ => rfl)

/-- The window's weights by row and lane of the window. -/
theorem windowWeight_at (r : Fin 256) (w : Fin 64) (h : Fin 32) (a : Fin 8) (j : Fin 16) :
    val_main_v125 (F := Ideal) x0 x1 x2 x4 (ix5 r w h a j)
      = Ideal.div (Ideal.exp (winScore x0 x2 x4 r w h a j - top (winAt x0 x2 x4 r w h) (ctxScore x0 x1 x2 r w h)))
          (mass (winAt x0 x2 x4 r w h) (ctxScore x0 x1 x2 r w h)) := by
  have hk : 16 * a.val + j.val < 128 := by omega
  have e := row_window x0 x1 x2 x4 r w h ⟨16 * a.val + j.val, hk⟩
  rw [show (⟨(16 * a.val + j.val) / 16, by omega⟩ : Fin 8) = a from Fin.ext (by show (16 * a.val + j.val) / 16 = a.val; omega),
    show (⟨(16 * a.val + j.val) % 16, by omega⟩ : Fin 16) = j from Fin.ext (by show (16 * a.val + j.val) % 16 = j.val; omega)] at e
  rw [← e, ← weight_at, val_main_v125_apply, val_main_v124_apply]
  refine congrArg (val_main_v123 (F := Ideal) x0 x1 x2 x4) ?_
  funext b
  refine Fin.ext ?_
  match b with
  | ⟨0, _⟩ => dsimp [ix4, ix5]; omega
  | ⟨1, _⟩ => dsimp [ix4, ix5]; omega
  | ⟨2, _⟩ => dsimp [ix4, ix5]; omega
  | ⟨3, _⟩ => dsimp [ix4, ix5]; omega

/-- The product of the window's weights with the values, over the window's rows and lanes. -/
theorem window_sum {p : FVec Ideal S256x64x32x8x16 .f32} {v : FVec Ideal S256x8x64x16x32x128 .f32}
    (r : Fin 256) (w : Fin 64) (h : Fin 32) (d : Fin 128) :
    Host.dotGeneral (F := Ideal) dot_S256x64x32x8x16_S256x8x64x16x32x128_S256x64x32x128_34_13_n_5_012_024 none p v (ix4 r w h d)
      = ∑ a : Fin 8, ∑ j : Fin 16, (p (ix5 r w h a j) * v (ix6 r a w j h d) : EReal) := by
  simp only [Host.dotGeneral]
  rw [Ideal.dotGeneral_apply]
  refine (ValueIdx.sum_contr2 dot_S256x64x32x8x16_S256x8x64x16x32x128_S256x64x32x128_34_13_n_5_012_024 8 16 rfl rfl rfl _).trans ?_
  refine Finset.sum_congr rfl fun a _ => Finset.sum_congr rfl fun j _ => ?_
  have h0 := ValueIdx.contrEquiv2_symm_val0 dot_S256x64x32x8x16_S256x8x64x16x32x128_S256x64x32x128_34_13_n_5_012_024 8 16 rfl rfl rfl (a, j)
  have h1 := ValueIdx.contrEquiv2_symm_val1 dot_S256x64x32x8x16_S256x8x64x16x32x128_S256x64x32x128_34_13_n_5_012_024 8 16 rfl rfl rfl (a, j)
  generalize (ValueIdx.contrEquiv2 dot_S256x64x32x8x16_S256x8x64x16x32x128_S256x64x32x128_34_13_n_5_012_024 8 16 rfl rfl rfl).symm (a, j) = q at h0 h1
  refine congrArg₂ (fun p q : EReal => p * q) (congrArg p ?_) (congrArg v ?_)
  · funext b
    refine Fin.ext ?_
    match b with
    | ⟨0, _⟩ => rfl
    | ⟨1, _⟩ => rfl
    | ⟨2, _⟩ => rfl
    | ⟨3, _⟩ => exact h0
    | ⟨4, _⟩ => exact h1
  · funext b
    refine Fin.ext ?_
    match b with
    | ⟨0, _⟩ => rfl
    | ⟨1, _⟩ => exact h0
    | ⟨2, _⟩ => rfl
    | ⟨3, _⟩ => exact h1
    | ⟨4, _⟩ => rfl
    | ⟨5, _⟩ => rfl

/-- The attention's output at a query, a head and a coordinate: the softmax mean of the values. -/
theorem mean_at (r : Fin 256) (w : Fin 64) (h : Fin 32) (d : Fin 128) :
    val_main_v130 (F := Ideal) x0 x1 x2 x4 (ix4 r w h d)
      = early (winAt x0 x2 x4 r w h) (ctxScore x0 x1 x2 r w h) (valAt x0 x2 r w h d) (ctxValAt x1 x2 h d) := by
  rw [val_main_v130_apply]
  refine congrArg₂ (fun p q : EReal => p + q) ?_ ?_
  · unfold val_main_v126
    rw [window_sum]
    refine (Finset.sum_congr rfl fun a _ => Finset.sum_congr rfl fun j _ => congrArg₂ (fun p q : EReal => p * q)
      (windowWeight_at x0 x1 x2 x4 r w h a j) ((values_at x0 x2 r a w j h d).trans (v_at x0 x2 _ _ h d))).trans ?_
    exact sum_window fun a j => Ideal.div (Ideal.exp (winScore x0 x2 x4 r w h a j - top (winAt x0 x2 x4 r w h) (ctxScore x0 x1 x2 r w h)))
          (mass (winAt x0 x2 x4 r w h) (ctxScore x0 x1 x2 r w h)) * val_main_v1 (F := Ideal) x0 x2 (ix2 (tok (winRow r a) (winLane w j)) (vCol h d))
  · rw [val_main_v129_apply, val_main_v128_apply]
    refine Finset.sum_congr rfl fun n _ => (mul_comm _ _).trans (congrArg₂ (fun p q : EReal => p * q) ?_ ?_)
    · rw [val_main_v127_apply, ← row_context x0 x1 x2 x4, ← weight_at]
      refine congrArg (val_main_v123 (F := Ideal) x0 x1 x2 x4) ?_
      funext b
      match b with | ⟨0, _⟩ => rfl | ⟨1, _⟩ => rfl | ⟨2, _⟩ => rfl | ⟨3, _⟩ => rfl
    · exact (congrArg (val_main_v15 (F := Ideal) x1 x2) (by funext b; match b with | ⟨0, _⟩ => rfl | ⟨1, _⟩ => rfl | ⟨2, _⟩ => rfl)).trans (vc_at x1 x2 n h d)

/-- The same by token and column. -/
theorem attention_at (r : Fin 256) (w : Fin 64) (h : Fin 32) (d : Fin 128) :
    val_main_v131 (F := Ideal) x0 x1 x2 x4 (ix2 (tok r w) (⟨128 * h.val + d.val, by omega⟩ : Fin 4096))
      = early (winAt x0 x2 x4 r w h) (ctxScore x0 x1 x2 r w h) (valAt x0 x2 r w h d) (ctxValAt x1 x2 h d) := by
  rw [val_main_v131_apply, ← mean_at]
  refine congrArg (val_main_v130 (F := Ideal) x0 x1 x2 x4) ?_
  funext b
  refine Fin.ext ?_
  match b with
  | ⟨0, _⟩ => dsimp [ix4, ix2, tok]; omega
  | ⟨1, _⟩ => dsimp [ix4, ix2, tok]; omega
  | ⟨2, _⟩ => dsimp [ix4, ix2, tok]; omega
  | ⟨3, _⟩ => dsimp [ix4, ix2, tok]; omega

/-- The result: the attention's output times the projection. -/
theorem result_at (t : Fin 16384) (n : Fin 4096) :
    val_main_v132 (F := Ideal) x0 x1 x2 x3 x4 (ix2 t n)
      = ∑ e : Fin 4096, (val_main_v131 (F := Ideal) x0 x1 x2 x4 (ix2 t e) * x3 (ix2 e n) : EReal) := by
  rw [val_main_v132_apply]
  refine Finset.sum_congr rfl fun e _ => congrArg₂ (fun p q : EReal => p * q) (congrArg _ ?_) (congrArg _ ?_)
  · funext b; match b with | ⟨0, _⟩ => rfl | ⟨1, _⟩ => rfl
  · funext b; match b with | ⟨0, _⟩ => rfl | ⟨1, _⟩ => rfl

end Parts

end Cert.ReferenceIdeal.Result
-- ==== Proof.Matmul.lean ====
/-  The three tiled products: after each region its result array is the product of its two operand arrays, row by
    column, whatever the arrays held at the region's entry. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Products

open Cert.KernelIdeal Cert.KernelIdeal.Gen

variable (V : (c : Dev nD) → (b : Ref sig .tc) → Buf (Elt Ideal) ((c : Thread nD τ).loc b))

/-- The product of the latent rows with the projection: a row against a column. -/
def prod0 (X : FVec Ideal S16384x4096 .bf16) (W : FVec Ideal S4096x12288 .bf16) : FVec Ideal S16384x12288 .bf16 :=
  fun i => ∑ k : Fin 4096, X (ix2 (i 0) k) * W (ix2 k (i 1))

/-- The product of the context rows with the projection. -/
def prod1 (X : FVec Ideal S256x4096 .bf16) (W : FVec Ideal S4096x12288 .bf16) : FVec Ideal S256x12288 .bf16 :=
  fun i => ∑ k : Fin 4096, X (ix2 (i 0) k) * W (ix2 k (i 1))

/-- The product of the attended rows with the output projection. -/
def prod4 (X : FVec Ideal S16384x4096 .bf16) (W : FVec Ideal S4096x4096 .bf16) : FVec Ideal S16384x4096 .f32 :=
  fun i => ∑ k : Fin 4096, X (ix2 (i 0) k) * W (ix2 k (i 1))

/-- Region 0's block indices: row block, whole depth, column block. -/
theorem idx0 : ∀ t : Fin cfg0.N, win0_0.index t = ![t.val / 12, 0] ∧ win0_1.index t = ![0, t.val % 12]
    ∧ win0_2.index t = ![t.val / 12, t.val % 12] :=
  (by decide +kernel : ∀ t : Fin grid0.N, _)

/-- Region 1's block indices. -/
theorem idx1 : ∀ t : Fin cfg1.N, win1_0.index t = ![t.val / 12, 0] ∧ win1_1.index t = ![0, t.val % 12]
    ∧ win1_2.index t = ![t.val / 12, t.val % 12] :=
  (by decide +kernel : ∀ t : Fin grid1.N, _)

/-- Region 4's block indices. -/
theorem idx4 : ∀ t : Fin cfg4.N, win4_0.index t = ![t.val / 4, 0] ∧ win4_1.index t = ![0, t.val % 4]
    ∧ win4_2.index t = ![t.val / 4, t.val % 4] :=
  (by decide +kernel : ∀ t : Fin grid4.N, _)

/-- A stored block element of region 0 is the product at its place in the array. -/
theorem point0 (c : Dev nD) (t : Fin cfg0.N) (y) : k0_pay1 (iblk0 V c 0 t) (iblk0 V c 1 t) y
    = prod0 (V c main_arg0) (V c main_v0) (((cfg0.win 2).blk t).view.emb y) := by
  pointwise [k0_pay1, prod0]
  blk_point [iblk0, idx0 t]

/-- A stored block element of region 1 is the product at its place in the array. -/
theorem point1 (c : Dev nD) (t : Fin cfg1.N) (y) : k1_pay1 (iblk1 V c 0 t) (iblk1 V c 1 t) y
    = prod1 (V c main_arg1) (V c main_v0) (((cfg1.win 2).blk t).view.emb y) := by
  pointwise [k1_pay1, prod1]
  blk_point [iblk1, idx1 t]

/-- A stored block element of region 4 is the product at its place in the array. -/
theorem point4 (c : Dev nD) (t : Fin cfg4.N) (y) : k4_pay1 (iblk4 V c 0 t) (iblk4 V c 1 t) y
    = prod4 (V c main_v6) (V c main_v1) (((cfg4.win 2).blk t).view.emb y) := by
  pointwise [k4_pay1, prod4]
  blk_point [iblk4, idx4 t]

/-- The latent projection, whole. -/
theorem final0 (c : Dev nD) : (dat0 V c).arrAt 2 cfg0.N = prod0 (V c main_arg0) (V c main_v0) := by
  refine (dat0 V c).arrAt_eq_of_covers 2 _ (by decide +kernel) fun t _ y => ?_
  blk_simp
  rw [after0_2]; frame_out
  exact point0 V c t y

/-- The context projection, whole. -/
theorem final1 (c : Dev nD) : (dat1 V c).arrAt 2 cfg1.N = prod1 (V c main_arg1) (V c main_v0) := by
  refine (dat1 V c).arrAt_eq_of_covers 2 _ (by decide +kernel) fun t _ y => ?_
  blk_simp
  rw [after1_2]; frame_out
  exact point1 V c t y

/-- The output projection, whole. -/
theorem final4 (c : Dev nD) : (dat4 V c).arrAt 2 cfg4.N = prod4 (V c main_v6) (V c main_v1) := by
  refine (dat4 V c).arrAt_eq_of_covers 2 _ (by decide +kernel) fun t _ y => ?_
  blk_simp
  rw [after4_2]; frame_out
  exact point4 V c t y

end Cert.KernelIdeal.Products

end
-- ==== Proof.BiasTable.lean ====
/-  The bias table's region, whole. -/
module

public import proofs.«01_k».proof.Proof.Gen.KernelIdeal.Frame
public import proofs.«01_k».proof.Proof.Bias
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Bias

open Cert.KernelIdeal Cert.KernelIdeal.Gen

/-- A band, read: the plane of the lane's block. -/
theorem band_apply (g : Fin 8 → FVec Ideal S64x64 .f32) (x : S1x1x64x512.Idx) :
    band g x = g ⟨(x 3).val / 64, by have h3 : (x 3).val < 512 := (x 3).isLt; omega⟩ (ix2 (x 2) ⟨(x 3).val % 64, by omega⟩) := by
  refine Eq.trans ?_ (strip_apply g concatenates_S64x64_S64x64_S64x64_S64x64_S64x64_S64x64_S64x64_S64x64_S64x512_d1 (x 2) (x 3))
  unfold band
  generalize concatenate (α := Ideal .f32) S64x512 1 _ _ = z
  pointwise
  blk_ext

variable (V : (c : Dev nD) → (b : Ref sig .tc) → Buf (Elt Ideal) ((c : Thread nD τ).loc b))

/-- Region 2's point is the head. -/
theorem coord2 : ∀ t : Fin cfg2.N, ((grid2.coords t) 0).val = t.val := (by decide +kernel : ∀ t : Fin grid2.N, _)

/-- Region 2 reads the flat table whole at every point. -/
theorem idx20 : ∀ t : Fin cfg2.N, win2_0.index t = ![0] := (by decide +kernel : ∀ t : Fin grid2.N, _)

/-- Region 2's block of the flat table is the flat table. -/
theorem in2 (c : Dev nD) (t : Fin cfg2.N) (a b : Fin 14880) (h : a = b) : iblk2 V c 0 t (ix1 a) = V c main_v4 (ix1 b) := by
  subst h
  pointwise
  blk_point [iblk2, idx20 t]

/-- The table's region, whole: every head's rows of the table. -/
theorem final2 (c : Dev nD) : (dat2 V c).arrAt 1 cfg2.N = tab (V c main_v4) := by
  refine (dat2 V c).arrAt_eq_of_covers 1 _ (by decide +kernel) fun t _ y => ?_
  blk_simp
  rw [after2_1]
  unfold outsAt2 out2_A_1
  rw [View.read_writes_eq_canon _ _ _ (fun y => cover2_A_1 _ _ _ _ _ _ _ y), pieces]
  refine View.canon_ofFn_unit_eq_of_forall _ _ _ _ _ _ ?_ ?_
  · have h1 : (y 1).val < 8 := (y 1).isLt
    refine ⟨⟨7 - (y 1).val, by omega⟩, fun a => ?_⟩
    match a with
    | ⟨0, _⟩ => exact ⟨Nat.zero_le _, (y 0).isLt⟩
    | ⟨1, _⟩ => exact ⟨show 7 - (7 - (y 1).val) ≤ (y 1).val by omega, show (y 1).val < 7 - (7 - (y 1).val) + 1 by omega⟩
    | ⟨2, _⟩ => exact ⟨Nat.zero_le _, show (y 2).val < 0 + 64 from by rw [Nat.zero_add]; exact (y 2).isLt⟩
    | ⟨3, _⟩ => exact ⟨Nat.zero_le _, show (y 3).val < 0 + 512 from by rw [Nat.zero_add]; exact (y 3).isLt⟩
  · intro k x hx
    have q1 : (y 1).val = 7 - k.val + (x 1).val := hx 1
    have q2 : (y 2).val = 0 + (x 2).val := hx 2
    have q3 : (y 3).val = 0 + (x 3).val := hx 3
    have hx1 : (x 1).val < 1 := (x 1).isLt
    have e0 : (((win2_1.blk t).view.emb y) 0).val = t.val := by
      have hy : (y 0).val < 1 := (y 0).isLt
      blk_simp [idx2 t]
    have e1 : (((win2_1.blk t).view.emb y) 1).val = (y 1).val := by blk_simp [idx2 t]
    have e2 : (((win2_1.blk t).view.emb y) 2).val = (y 2).val := by blk_simp [idx2 t]
    have e3 : (((win2_1.blk t).view.emb y) 3).val = (y 3).val := by blk_simp [idx2 t]
    generalize (win2_1.blk t).view.emb y = z at e0 e1 e2 e3 ⊢
    refine (band_apply _ x).trans ((plane_apply _ _ _).trans ?_)
    unfold tab
    congr 1
    · funext d
      rw [load_apply]
      have g := coord2 t
      have n : 465 * ((grid2.coords t) 0).val + 31 * ((7 - k.val) + (x 3).val / 64) + d.val = 465 * (z 0).val + 31 * ((z 1).val + (z 3).val / 64) + d.val := by
        rw [e0, e1, e3, q1, q3, g]; omega
      refine (in2 V c t _ _ rfl).trans ?_
      congr 1
      exact congrArg ix1 (Fin.ext n)
    · exact Fin.ext (by show (x 2).val = (z 2).val; omega)
    · exact Fin.ext (by show (x 3).val % 64 = (z 3).val % 64; rw [e3, q3, Nat.zero_add])

end Cert.KernelIdeal.Bias

end
-- ==== Proof.Head.lean ====
/-  One head's attention over one lattice row, as the kernel computes it from the row's queries, the window's keys and values, the
    bias strip and the context's keys and values: element by element it is the unnormalised softmax, divided at the end. -/
module

public import proofs.«01_k».proof.Proof.Gen.KernelIdeal.Frame
public import proofs.«01_k».proof.Proof.Softmax
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Head

open Cert.KernelIdeal Cert.KernelIdeal.Gen Cert.Attn

/-- The scores' scale, the rounded inverse root of the head's width. -/
abbrev scale : Ideal .f32 := Scalar.ofBits (F := Ideal) .f32 0x3DB504F3#32

/-- The scores against the window's keys, with the bias. -/
def local_ (q : FVec Ideal S64x128 .bf16) (k : FVec Ideal S512x128 .bf16) (tb : FVec Ideal S1x1x64x512 .f32) : FVec Ideal S64x512 .f32 :=
  addf (mulf (matmul dot_S64x128_S512x128_S64x512_1_1_0_0_n_n none (shapeCast S64x128 q shapeCasts_S64x128_S64x128) (shapeCast S512x128 k shapeCasts_S512x128_S512x128)
    (constant S64x512 .f32 0x00000000#32)) (broadcast S64x512 scale)) (shapeCast S64x512 tb shapeCasts_S1x1x64x512_S64x512)

/-- The scores against the context's keys. -/
def ctx (q : FVec Ideal S64x128 .bf16) (kc : FVec Ideal S256x128 .bf16) : FVec Ideal S64x256 .f32 :=
  mulf (matmul dot_S64x128_S256x128_S64x256_1_1_0_0_n_n none (shapeCast S64x128 q shapeCasts_S64x128_S64x128) (shapeCast S256x128 kc shapeCasts_S256x128_S256x128)
    (constant S64x256 .f32 0x00000000#32)) (broadcast S64x256 scale)

/-- A row's largest score. -/
def peak (s : FVec Ideal S64x512 .f32) (c : FVec Ideal S64x256 .f32) : FVec Ideal S64x1 .f32 :=
  maximumf (shapeCast S64x1 (multiReduction .maximumf [1] S64 s 0xFF800000#32 reduces_S64x512_S64 (.inl rfl) rfl) shapeCasts_S64_S64x1)
    (shapeCast S64x1 (multiReduction .maximumf [1] S64 c 0xFF800000#32 reduces_S64x256_S64 (.inl rfl) rfl) shapeCasts_S64_S64x1)

/-- The unnormalised weights of the window. -/
def wLocal (s : FVec Ideal S64x512 .f32) (p : FVec Ideal S64x1 .f32) : FVec Ideal S64x512 .f32 :=
  exp (subf s (broadcastTo S64x512 p broadcasts_S64x1_S64x512))

/-- The unnormalised weights of the context. -/
def wCtx (c : FVec Ideal S64x256 .f32) (p : FVec Ideal S64x1 .f32) : FVec Ideal S64x256 .f32 :=
  exp (subf c (broadcastTo S64x256 p broadcasts_S64x1_S64x256))

/-- The sum of a row's weights. -/
def total (a : FVec Ideal S64x512 .f32) (b : FVec Ideal S64x256 .f32) : FVec Ideal S64x1 .f32 :=
  addf (shapeCast S64x1 (multiReduction .add [1] S64 a 0x00000000#32 reduces_S64x512_S64 (.inl rfl) rfl) shapeCasts_S64_S64x1)
    (shapeCast S64x1 (multiReduction .add [1] S64 b 0x00000000#32 reduces_S64x256_S64 (.inl rfl) rfl) shapeCasts_S64_S64x1)

/-- The weighted values, divided by the sum of the weights. -/
def out (a : FVec Ideal S64x512 .f32) (b : FVec Ideal S64x256 .f32) (v : FVec Ideal S512x128 .bf16) (vc : FVec Ideal S256x128 .bf16) : FVec Ideal S64x128 .bf16 :=
  truncf .bf16 (divf (addf (matmul dot_S64x512_S512x128_S64x128_1_0_0_1_n_n none (truncf .bf16 a bitsLt_bf16_f32) (shapeCast S512x128 v shapeCasts_S512x128_S512x128) (constant S64x128 .f32 0x00000000#32))
      (matmul dot_S64x256_S256x128_S64x128_1_0_0_1_n_n none (truncf .bf16 b bitsLt_bf16_f32) (shapeCast S256x128 vc shapeCasts_S256x128_S256x128) (constant S64x128 .f32 0x00000000#32)))
    (broadcastTo S64x128 (total a b) broadcasts_S64x1_S64x128)) bitsLt_bf16_f32

/-- One head of one row. -/
def head (q : FVec Ideal S64x128 .bf16) (k v : FVec Ideal S512x128 .bf16) (tb : FVec Ideal S1x1x64x512 .f32) (kc vc : FVec Ideal S256x128 .bf16) : FVec Ideal S64x128 .bf16 :=
  out (wLocal (local_ q k tb) (peak (local_ q k tb) (ctx q kc))) (wCtx (ctx q kc) (peak (local_ q k tb) (ctx q kc))) v vc

theorem local_apply (q k tb) (w : Fin 64) (j : Fin 512) :
    local_ q k tb (ix2 w j) = (∑ d : Fin 128, q (ix2 w d) * k (ix2 j d) : EReal) * scale + tb (ix4 (0 : Fin 1) (0 : Fin 1) w j) := by
  pointwise [local_]

theorem ctx_apply (q kc) (w : Fin 64) (n : Fin 256) :
    ctx q kc (ix2 w n) = (∑ d : Fin 128, q (ix2 w d) * kc (ix2 n d) : EReal) * scale := by
  pointwise [ctx]

theorem neg_inf : Ideal.ofBits .f32 4286578688#32 = (⊥ : EReal) := by
  simp [Ideal.ofBits, Ideal.ieee]

theorem peak_apply (s c) (w : Fin 64) (z : Fin 1) :
    peak s c (ix2 w z) = top (fun j : Fin 512 => s (ix2 w j)) (fun n : Fin 256 => c (ix2 w n)) := by
  pointwise [peak]
  rw [neg_inf]
  rfl

theorem wLocal_apply (s p) (w : Fin 64) (j : Fin 512) : wLocal s p (ix2 w j) = Ideal.exp (s (ix2 w j) - p (ix2 w (0 : Fin 1)) : EReal) := by
  pointwise [wLocal]

theorem wCtx_apply (s p) (w : Fin 64) (j : Fin 256) : wCtx s p (ix2 w j) = Ideal.exp (s (ix2 w j) - p (ix2 w (0 : Fin 1)) : EReal) := by
  pointwise [wCtx]

theorem total_apply (a b) (w : Fin 64) (z : Fin 1) : total a b (ix2 w z) = (∑ j : Fin 512, a (ix2 w j) + ∑ n : Fin 256, b (ix2 w n) : EReal) := by
  pointwise [total]

theorem out_apply (a b v vc) (w : Fin 64) (d : Fin 128) : out a b v vc (ix2 w d)
    = Ideal.div (∑ j : Fin 512, a (ix2 w j) * v (ix2 j d) + ∑ n : Fin 256, b (ix2 w n) * vc (ix2 n d) : EReal) (total a b (ix2 w (0 : Fin 1))) := by
  pointwise [out]

/-- One head of one row, read: the unnormalised softmax of the scores against window and context, divided at the end. -/
theorem head_apply (q k v tb kc vc) (w : Fin 64) (d : Fin 128) : head q k v tb kc vc (ix2 w d)
    = late (fun j : Fin 512 => (∑ d : Fin 128, q (ix2 w d) * k (ix2 j d) : EReal) * scale + tb (ix4 (0 : Fin 1) (0 : Fin 1) w j))
        (fun n : Fin 256 => (∑ d : Fin 128, q (ix2 w d) * kc (ix2 n d) : EReal) * scale)
        (fun j => v (ix2 j d)) (fun n => vc (ix2 n d)) := by
  simp only [head, out_apply, total_apply, wLocal_apply, wCtx_apply, peak_apply, local_apply, ctx_apply]
  rfl

end Cert.KernelIdeal.Head

end
-- ==== Proof.Trip.lean ====
/-  The attention's counted loop: what one trip stores. -/
module

public import proofs.«01_k».proof.Proof.Gen.KernelIdeal.Frame
public import proofs.«01_k».proof.Proof.Softmax
public import proofs.«01_k».proof.Proof.Head
public import proofs.«01_k».proof.Proof.Offsets
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Trip

open Cert.KernelIdeal Cert.KernelIdeal.Gen Cert.Attn Cert.KernelIdeal.Head

variable (𝒱 : Variants) (c : Dev nD) (bd : Option 𝒱.V) (i : grid3.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2x8x64x512 .f32) (harg7 : arg7.IsWhole) (arg8 : Memref sig .tc .vmem S512x256 .bf16) (harg8 : arg8.IsWhole) (arg1 : BitVec 32)
  (x0 : Vec Ideal S512x256 .bf16) (x1 x2 : Vec Ideal S16384x256 .bf16) (x3 x4 : Vec Ideal S256x256 .bf16) (x5 : Vec Ideal S2x8x64x512 .f32)

/-- What trip `k` stores for the point's first head. -/
def first (k : Fin k3_t1_loop.trips) : FVec Ideal S64x128 .bf16 :=
  head (View.ld x0 (Rect.unit (s := S512x256) (k3_off1 k) S64x128.size (k3_off1_inb k)))
    (View.ld x1 (Rect.unit (s := S16384x256) (k3_off2 i k) S512x128.size (k3_off2_inb i k)))
    (View.ld x2 (Rect.unit (s := S16384x256) (k3_off2 i k) S512x128.size (k3_off2_inb i k)))
    (View.ld x5 (Rect.unit (s := S2x8x64x512) (k3_off3 i k) S1x1x64x512.size (k3_off3_inb i k)))
    (View.ld x3 (Rect.unit (s := S256x256) ![0, 0] S256x128.size inb_S256x256_S256x128_0_0))
    (View.ld x4 (Rect.unit (s := S256x256) ![0, 0] S256x128.size inb_S256x256_S256x128_0_0))

/-- What trip `k` stores for the point's second head. -/
def second (k : Fin k3_t1_loop.trips) : FVec Ideal S64x128 .bf16 :=
  head (View.ld x0 (Rect.unit (s := S512x256) (k3_off4 k) S64x128.size (k3_off4_inb k)))
    (View.ld x1 (Rect.unit (s := S16384x256) (k3_off5 i k) S512x128.size (k3_off5_inb i k)))
    (View.ld x2 (Rect.unit (s := S16384x256) (k3_off5 i k) S512x128.size (k3_off5_inb i k)))
    (View.ld x5 (Rect.unit (s := S2x8x64x512) (k3_off6 i k) S1x1x64x512.size (k3_off6_inb i k)))
    (View.ld x3 (Rect.unit (s := S256x256) ![0, 128] S256x128.size inb_S256x256_S256x128_0_128))
    (View.ld x4 (Rect.unit (s := S256x256) ![0, 128] S256x128.size inb_S256x256_S256x128_0_128))

/-- A trip's two stores, the last one first. -/
theorem trip_pieces_of (X2 X3 X4 X5 X6 X7) (k : Fin k3_t1_loop.trips) :
    tripL_k3_t1 (F := Ideal) 𝒱 c bd i arg2 harg2 arg3 harg3 arg4 harg4 arg5 harg5 arg6 harg6 arg7 harg7 arg8 harg8 arg1 X2 X3 X4 X5 X6 X7 k
      = [(⟨Rect.unit (s := S512x256) (k3_off4 k) S64x128.size (k3_off4_inb k), second i (arg2.view.read (Elt Ideal) X2) (arg3.view.read (Elt Ideal) X3) (arg4.view.read (Elt Ideal) X4) (arg5.view.read (Elt Ideal) X5) (arg6.view.read (Elt Ideal) X6) (arg7.view.read (Elt Ideal) X7) k⟩ : View.Piece (Elt Ideal) S512x256 .bf16),
         ⟨Rect.unit (s := S512x256) (k3_off1 k) S64x128.size (k3_off1_inb k), first i (arg2.view.read (Elt Ideal) X2) (arg3.view.read (Elt Ideal) X3) (arg4.view.read (Elt Ideal) X4) (arg5.view.read (Elt Ideal) X5) (arg6.view.read (Elt Ideal) X6) (arg7.view.read (Elt Ideal) X7) k⟩] := by
  unfold tripL_k3_t1 trip_k3_t1
  rfl

/-- A trip's two stores, from whole buffers. -/
theorem trip_pieces (k : Fin k3_t1_loop.trips) :
    tripL_k3_t1 (F := Ideal) 𝒱 c bd i arg2 harg2 arg3 harg3 arg4 harg4 arg5 harg5 arg6 harg6 arg7 harg7 arg8 harg8 arg1 (harg2.unread x0) (harg3.unread x1) (harg4.unread x2) (harg5.unread x3) (harg6.unread x4) (harg7.unread x5) k
      = [(⟨Rect.unit (s := S512x256) (k3_off4 k) S64x128.size (k3_off4_inb k), second i x0 x1 x2 x3 x4 x5 k⟩ : View.Piece (Elt Ideal) S512x256 .bf16),
         ⟨Rect.unit (s := S512x256) (k3_off1 k) S64x128.size (k3_off1_inb k), first i x0 x1 x2 x3 x4 x5 k⟩] := by
  rw [trip_pieces_of, Memref.IsWhole.read_unread, Memref.IsWhole.read_unread, Memref.IsWhole.read_unread, Memref.IsWhole.read_unread, Memref.IsWhole.read_unread, Memref.IsWhole.read_unread]

/-- What every trip's stores satisfy, the loop's do. -/
theorem all_pieces (P : View.Piece (Elt Ideal) S512x256 .bf16 → Prop)
    (h2 : ∀ k : Fin k3_t1_loop.trips, P ⟨Rect.unit (s := S512x256) (k3_off4 k) S64x128.size (k3_off4_inb k), second i x0 x1 x2 x3 x4 x5 k⟩)
    (h1 : ∀ k : Fin k3_t1_loop.trips, P ⟨Rect.unit (s := S512x256) (k3_off1 k) S64x128.size (k3_off1_inb k), first i x0 x1 x2 x3 x4 x5 k⟩) :
    ∀ n ≤ k3_t1_loop.trips, ∀ p ∈ pb_k3_t1 (F := Ideal) 𝒱 c bd i arg2 harg2 arg3 harg3 arg4 harg4 arg5 harg5 arg6 harg6 arg7 harg7 arg8 harg8 arg1 (harg2.unread x0) (harg3.unread x1) (harg4.unread x2) (harg5.unread x3) (harg6.unread x4) (harg7.unread x5) n, P p := by
  intro n
  induction n with
  | zero => intro _ p hp; exact absurd hp List.not_mem_nil
  | succ n ih =>
    intro hn p hp
    rw [pb_k3_t1_succ 𝒱 c bd i arg2 harg2 arg3 harg3 arg4 harg4 arg5 harg5 arg6 harg6 arg7 harg7 arg8 harg8 arg1 _ _ _ _ _ _ ⟨n, hn⟩, trip_pieces] at hp
    rcases List.mem_append.mp hp with h | h
    · rcases List.mem_cons.mp h with rfl | h
      · exact h2 _
      · rcases List.mem_cons.mp h with rfl | h
        · exact h1 _
        · exact absurd h List.not_mem_nil
    · exact ih (Nat.le_of_lt hn) p h

end Cert.KernelIdeal.Trip

end
-- ==== Proof.Attention.lean ====
/-  The attention's region, whole. -/
module

public import proofs.«01_k».proof.Proof.Gen.KernelIdeal.Frame
public import proofs.«01_k».proof.Proof.Softmax
public import proofs.«01_k».proof.Proof.Head
public import proofs.«01_k».proof.Proof.Offsets
public import proofs.«01_k».proof.Proof.Trip
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Attention

open Cert.KernelIdeal Cert.KernelIdeal.Gen Cert.Attn Cert.KernelIdeal.Trip Cert.KernelIdeal.Head

/-- The attention over the lattice: at row `t` and lane `e` of the result, the softmax of the scores of the row's query (of the lane's head) against the
    eight lattice rows of its window, with the bias table, and against the context, times the values at the lane. -/
def attAt (Q : FVec Ideal S16384x12288 .bf16) (C : FVec Ideal S256x12288 .bf16) (T : FVec Ideal S32x8x64x512 .f32) (t : Fin 16384) (e : Fin 4096) : EReal :=
  late
    (fun j : Fin 512 => (∑ d : Fin 128, Q (ix2 t (⟨128 * (e.val / 128) + d.val, by omega⟩ : Fin 12288))
          * Q (ix2 (⟨64 * row0 (t.val / 64) + j.val, by unfold row0; omega⟩ : Fin 16384) (⟨4096 + 128 * (e.val / 128) + d.val, by omega⟩ : Fin 12288)) : EReal) * scale
        + T (ix4 (⟨e.val / 128, by omega⟩ : Fin 32) (⟨row0 (t.val / 64) + 7 - t.val / 64, by unfold row0; omega⟩ : Fin 8) (⟨t.val % 64, by omega⟩ : Fin 64) j))
    (fun n : Fin 256 => (∑ d : Fin 128, Q (ix2 t (⟨128 * (e.val / 128) + d.val, by omega⟩ : Fin 12288))
          * C (ix2 n (⟨4096 + 128 * (e.val / 128) + d.val, by omega⟩ : Fin 12288)) : EReal) * scale)
    (fun j => Q (ix2 (⟨64 * row0 (t.val / 64) + j.val, by unfold row0; omega⟩ : Fin 16384) (⟨8192 + e.val, by omega⟩ : Fin 12288)))
    (fun n => C (ix2 n (⟨8192 + e.val, by omega⟩ : Fin 12288)))

/-- The attention's result array. -/
def att (Q : FVec Ideal S16384x12288 .bf16) (C : FVec Ideal S256x12288 .bf16) (T : FVec Ideal S32x8x64x512 .f32) : FVec Ideal S16384x4096 .bf16 :=
  fun i => attAt Q C T (i 0) (i 1)

variable (V : (c : Dev nD) → (b : Ref sig .tc) → Buf (Elt Ideal) ((c : Thread nD τ).loc b)) (c : Dev nD) (t : Fin cfg3.N)

/-- Region 3's block indices: the group of heads, and the block of lattice rows. -/
theorem idx3 : ∀ t : Fin cfg3.N, win3_0.index t = ![((grid3.coords t) 1).val, ((grid3.coords t) 0).val] ∧ win3_1.index t = ![0, 16 + ((grid3.coords t) 0).val]
    ∧ win3_2.index t = ![0, 32 + ((grid3.coords t) 0).val] ∧ win3_3.index t = ![0, 16 + ((grid3.coords t) 0).val] ∧ win3_4.index t = ![0, 32 + ((grid3.coords t) 0).val]
    ∧ win3_5.index t = ![((grid3.coords t) 0).val, 0, 0, 0] ∧ win3_6.index t = ![((grid3.coords t) 1).val, ((grid3.coords t) 0).val] :=
  (by decide +kernel : ∀ t : Fin grid3.N, _)

/-! The blocks a point reads, by the places they hold in the arrays. -/

theorem in0 (a : Fin 512) (b : Fin 256) (a' : Fin 16384) (b' : Fin 12288) (ha : a'.val = 512 * ((grid3.coords t) 1).val + a.val) (hb : b'.val = 256 * ((grid3.coords t) 0).val + b.val) :
    iblk3 V c 0 t (ix2 a b) = V c main_v2 (ix2 a' b') := by
  blk_point [iblk3, idx3 t]

theorem in1 (a : Fin 16384) (b : Fin 256) (a' : Fin 16384) (b' : Fin 12288) (ha : a'.val = a.val) (hb : b'.val = 4096 + 256 * ((grid3.coords t) 0).val + b.val) :
    iblk3 V c 1 t (ix2 a b) = V c main_v2 (ix2 a' b') := by
  blk_point [iblk3, idx3 t]

theorem in2 (a : Fin 16384) (b : Fin 256) (a' : Fin 16384) (b' : Fin 12288) (ha : a'.val = a.val) (hb : b'.val = 8192 + 256 * ((grid3.coords t) 0).val + b.val) :
    iblk3 V c 2 t (ix2 a b) = V c main_v2 (ix2 a' b') := by
  blk_point [iblk3, idx3 t]

theorem in3 (a : Fin 256) (b : Fin 256) (a' : Fin 256) (b' : Fin 12288) (ha : a'.val = a.val) (hb : b'.val = 4096 + 256 * ((grid3.coords t) 0).val + b.val) :
    iblk3 V c 3 t (ix2 a b) = V c main_v3 (ix2 a' b') := by
  blk_point [iblk3, idx3 t]

theorem in4 (a : Fin 256) (b : Fin 256) (a' : Fin 256) (b' : Fin 12288) (ha : a'.val = a.val) (hb : b'.val = 8192 + 256 * ((grid3.coords t) 0).val + b.val) :
    iblk3 V c 4 t (ix2 a b) = V c main_v3 (ix2 a' b') := by
  blk_point [iblk3, idx3 t]

theorem in5 (a : Fin 2) (o : Fin 8) (w : Fin 64) (j : Fin 512) (a' : Fin 32) (o' : Fin 8) (w' : Fin 64) (ha : a'.val = 2 * ((grid3.coords t) 0).val + a.val) (ho : o'.val = o.val) (hw : w'.val = w.val) :
    iblk3 V c 5 t (ix4 a o w j) = V c main_v5 (ix4 a' o' w' j) := by
  blk_point [iblk3, idx3 t]

end Cert.KernelIdeal.Attention

end
-- ==== Proof.AttentionWhole.lean ====
/-  The attention's region, whole: what its loop stores at each point is the attention there. -/
module

public import proofs.«01_k».proof.Proof.Gen.KernelIdeal.Frame
public import proofs.«01_k».proof.Proof.Softmax
public import proofs.«01_k».proof.Proof.Head
public import proofs.«01_k».proof.Proof.Offsets
public import proofs.«01_k».proof.Proof.Trip
public import proofs.«01_k».proof.Proof.Attention
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Attention

open Cert.KernelIdeal Cert.KernelIdeal.Gen Cert.Attn Cert.KernelIdeal.Trip Cert.KernelIdeal.Head

/-- An index of a rank-two array placed by a rectangle's offsets, coordinate by coordinate. -/
theorem two {m n M N p q : ℕ} {off : Fin 2 → ℕ} (h : off = ![p, q]) (A : Fin M) (B : Fin N) (x : Fin m) (y : Fin n) (hA : A.val = p + x.val) (hB : B.val = q + y.val) :
    ∀ a : Fin 2, ((ix2 A B a : Fin _) : ℕ) = off a + (ix2 x y a : Fin _).val := by
  subst h
  intro a
  match a with
  | ⟨0, _⟩ => exact hA
  | ⟨1, _⟩ => exact hB

/-- The same at rank four. -/
theorem four {m n k l M N K L p q r s : ℕ} {off : Fin 4 → ℕ} (h : off = ![p, q, r, s]) (A : Fin M) (B : Fin N) (C : Fin K) (D : Fin L) (x : Fin m) (y : Fin n) (z : Fin k) (u : Fin l)
    (hA : A.val = p + x.val) (hB : B.val = q + y.val) (hC : C.val = r + z.val) (hD : D.val = s + u.val) :
    ∀ a : Fin 4, ((ix4 A B C D a : Fin _) : ℕ) = off a + (ix4 x y z u a : Fin _).val := by
  subst h
  intro a
  match a with
  | ⟨0, _⟩ => exact hA
  | ⟨1, _⟩ => exact hB
  | ⟨2, _⟩ => exact hC
  | ⟨3, _⟩ => exact hD

variable (V : (c : Dev nD) → (b : Ref sig .tc) → Buf (Elt Ideal) ((c : Thread nD τ).loc b)) (c : Dev nD) (t : Fin cfg3.N)

/-- Trip `k`'s first store, read: the attention at its row and lane. -/
theorem first_apply (k : Fin k3_t1_loop.trips) (w : Fin 64) (d : Fin 128) (t' : Fin 16384) (e' : Fin 4096)
    (ht : t'.val = 512 * ((grid3.coords t) 1).val + 64 * k.val + w.val) (he : e'.val = 256 * ((grid3.coords t) 0).val + 0 + d.val) :
    first (grid3.coords t) (iblk3 V c 0 t) (iblk3 V c 1 t) (iblk3 V c 2 t) (iblk3 V c 3 t) (iblk3 V c 4 t) (iblk3 V c 5 t) k (ix2 w d)
      = attAt (V c main_v2) (V c main_v3) (V c main_v5) t' e' := by
  have hk : k.val < 8 := Nat.lt_of_lt_of_le k.isLt k3_t1_abs.2.1
  have hr : t'.val / 64 = row (grid3.coords t) k := by unfold row; omega
  have hw : t'.val % 64 = w.val := by omega
  have hh : e'.val / 128 = 2 * ((grid3.coords t) 0).val + 0 := by omega
  have q : ∀ x : Fin 128, View.ld (iblk3 V c 0 t) (Rect.unit (s := S512x256) (k3_off1 k) S64x128.size (k3_off1_inb k)) (ix2 w x)
      = V c main_v2 (ix2 t' (⟨128 * (e'.val / 128) + x.val, by omega⟩ : Fin 12288)) := fun x =>
    (View.ld_unit_apply_of _ _ _ _ _ (ix2 (⟨64 * k.val + w.val, by omega⟩ : Fin 512) (⟨0 + x.val, by omega⟩ : Fin 256)) (two (k3_off1_eq k) _ _ _ _ rfl rfl)).trans
      (in0 V c t _ _ _ _ (by show _ = _ + (64 * k.val + w.val); omega) (by show 128 * (e'.val / 128) + x.val = _ + (0 + x.val); omega))
  have hk1 : ∀ (j : Fin 512) (x : Fin 128), View.ld (iblk3 V c 1 t) (Rect.unit (s := S16384x256) (k3_off2 (grid3.coords t) k) S512x128.size (k3_off2_inb (grid3.coords t) k)) (ix2 j x)
      = V c main_v2 (ix2 (⟨64 * row0 (t'.val / 64) + j.val, by unfold row0; omega⟩ : Fin 16384) (⟨4096 + 128 * (e'.val / 128) + x.val, by omega⟩ : Fin 12288)) := fun j x =>
    (View.ld_unit_apply_of _ _ _ _ _ (ix2 (⟨64 * row0 (row (grid3.coords t) k) + j.val, by unfold row0; omega⟩ : Fin 16384) (⟨0 + x.val, by omega⟩ : Fin 256)) (two (off2_eq (grid3.coords t) k) _ _ _ _ rfl rfl)).trans
      (in1 V c t _ _ _ _ (by show 64 * row0 (t'.val / 64) + j.val = _; rw [hr]) (by show 4096 + 128 * (e'.val / 128) + x.val = _ + (0 + x.val); omega))
  have hv : ∀ (j : Fin 512), View.ld (iblk3 V c 2 t) (Rect.unit (s := S16384x256) (k3_off2 (grid3.coords t) k) S512x128.size (k3_off2_inb (grid3.coords t) k)) (ix2 j d)
      = V c main_v2 (ix2 (⟨64 * row0 (t'.val / 64) + j.val, by unfold row0; omega⟩ : Fin 16384) (⟨8192 + e'.val, by omega⟩ : Fin 12288)) := fun j =>
    (View.ld_unit_apply_of _ _ _ _ _ (ix2 (⟨64 * row0 (row (grid3.coords t) k) + j.val, by unfold row0; omega⟩ : Fin 16384) (⟨0 + d.val, by omega⟩ : Fin 256)) (two (off2_eq (grid3.coords t) k) _ _ _ _ rfl rfl)).trans
      (in2 V c t _ _ _ _ (by show 64 * row0 (t'.val / 64) + j.val = _; rw [hr]) (by show 8192 + e'.val = _ + (0 + d.val); omega))
  have hkc : ∀ (n : Fin 256) (x : Fin 128), View.ld (iblk3 V c 3 t) (Rect.unit (s := S256x256) ![0, 0] S256x128.size inb_S256x256_S256x128_0_0) (ix2 n x)
      = V c main_v3 (ix2 n (⟨4096 + 128 * (e'.val / 128) + x.val, by omega⟩ : Fin 12288)) := fun n x =>
    (View.ld_unit_apply_of _ _ _ _ _ (ix2 n (⟨0 + x.val, by omega⟩ : Fin 256)) (two rfl _ _ _ _ (Nat.zero_add _).symm rfl)).trans
      (in3 V c t _ _ _ _ rfl (by show 4096 + 128 * (e'.val / 128) + x.val = _ + (0 + x.val); omega))
  have hvc : ∀ (n : Fin 256), View.ld (iblk3 V c 4 t) (Rect.unit (s := S256x256) ![0, 0] S256x128.size inb_S256x256_S256x128_0_0) (ix2 n d)
      = V c main_v3 (ix2 n (⟨8192 + e'.val, by omega⟩ : Fin 12288)) := fun n =>
    (View.ld_unit_apply_of _ _ _ _ _ (ix2 n (⟨0 + d.val, by omega⟩ : Fin 256)) (two rfl _ _ _ _ (Nat.zero_add _).symm rfl)).trans
      (in4 V c t _ _ _ _ rfl (by show 8192 + e'.val = _ + (0 + d.val); omega))
  have hT : ∀ (j : Fin 512), View.ld (iblk3 V c 5 t) (Rect.unit (s := S2x8x64x512) (k3_off3 (grid3.coords t) k) S1x1x64x512.size (k3_off3_inb (grid3.coords t) k)) (ix4 (0 : Fin 1) (0 : Fin 1) w j)
      = V c main_v5 (ix4 (⟨e'.val / 128, by omega⟩ : Fin 32) (⟨row0 (t'.val / 64) + 7 - t'.val / 64, by unfold row0; omega⟩ : Fin 8) (⟨t'.val % 64, by omega⟩ : Fin 64) j) := fun j =>
    (View.ld_unit_apply_of _ _ _ _ _ (ix4 (⟨0, by omega⟩ : Fin 2) (⟨row0 (row (grid3.coords t) k) + 7 - row (grid3.coords t) k, by rw [← hr]; unfold row0; omega⟩ : Fin 8) w j) (four (off3_eq (grid3.coords t) k) _ _ _ _ _ _ _ _ rfl rfl (Nat.zero_add _).symm (Nat.zero_add _).symm)).trans
      (in5 V c t _ _ _ _ _ _ _ hh (congrArg (fun r => row0 r + 7 - r) hr) hw)
  refine (head_apply _ _ _ _ _ _ w d).trans ?_
  unfold attAt
  simp only [q, hk1, hv, hkc, hvc, hT]

/-- Trip `k`'s second store, read: the attention at its row and lane. -/
theorem second_apply (k : Fin k3_t1_loop.trips) (w : Fin 64) (d : Fin 128) (t' : Fin 16384) (e' : Fin 4096)
    (ht : t'.val = 512 * ((grid3.coords t) 1).val + 64 * k.val + w.val) (he : e'.val = 256 * ((grid3.coords t) 0).val + 128 + d.val) :
    second (grid3.coords t) (iblk3 V c 0 t) (iblk3 V c 1 t) (iblk3 V c 2 t) (iblk3 V c 3 t) (iblk3 V c 4 t) (iblk3 V c 5 t) k (ix2 w d)
      = attAt (V c main_v2) (V c main_v3) (V c main_v5) t' e' := by
  have hk : k.val < 8 := Nat.lt_of_lt_of_le k.isLt k3_t1_abs.2.1
  have hr : t'.val / 64 = row (grid3.coords t) k := by unfold row; omega
  have hw : t'.val % 64 = w.val := by omega
  have hh : e'.val / 128 = 2 * ((grid3.coords t) 0).val + 1 := by omega
  have q : ∀ x : Fin 128, View.ld (iblk3 V c 0 t) (Rect.unit (s := S512x256) (k3_off4 k) S64x128.size (k3_off4_inb k)) (ix2 w x)
      = V c main_v2 (ix2 t' (⟨128 * (e'.val / 128) + x.val, by omega⟩ : Fin 12288)) := fun x =>
    (View.ld_unit_apply_of _ _ _ _ _ (ix2 (⟨64 * k.val + w.val, by omega⟩ : Fin 512) (⟨128 + x.val, by omega⟩ : Fin 256)) (two (k3_off4_eq k) _ _ _ _ rfl rfl)).trans
      (in0 V c t _ _ _ _ (by show _ = _ + (64 * k.val + w.val); omega) (by show 128 * (e'.val / 128) + x.val = _ + (128 + x.val); omega))
  have hk1 : ∀ (j : Fin 512) (x : Fin 128), View.ld (iblk3 V c 1 t) (Rect.unit (s := S16384x256) (k3_off5 (grid3.coords t) k) S512x128.size (k3_off5_inb (grid3.coords t) k)) (ix2 j x)
      = V c main_v2 (ix2 (⟨64 * row0 (t'.val / 64) + j.val, by unfold row0; omega⟩ : Fin 16384) (⟨4096 + 128 * (e'.val / 128) + x.val, by omega⟩ : Fin 12288)) := fun j x =>
    (View.ld_unit_apply_of _ _ _ _ _ (ix2 (⟨64 * row0 (row (grid3.coords t) k) + j.val, by unfold row0; omega⟩ : Fin 16384) (⟨128 + x.val, by omega⟩ : Fin 256)) (two (off5_eq (grid3.coords t) k) _ _ _ _ rfl rfl)).trans
      (in1 V c t _ _ _ _ (by show 64 * row0 (t'.val / 64) + j.val = _; rw [hr]) (by show 4096 + 128 * (e'.val / 128) + x.val = _ + (128 + x.val); omega))
  have hv : ∀ (j : Fin 512), View.ld (iblk3 V c 2 t) (Rect.unit (s := S16384x256) (k3_off5 (grid3.coords t) k) S512x128.size (k3_off5_inb (grid3.coords t) k)) (ix2 j d)
      = V c main_v2 (ix2 (⟨64 * row0 (t'.val / 64) + j.val, by unfold row0; omega⟩ : Fin 16384) (⟨8192 + e'.val, by omega⟩ : Fin 12288)) := fun j =>
    (View.ld_unit_apply_of _ _ _ _ _ (ix2 (⟨64 * row0 (row (grid3.coords t) k) + j.val, by unfold row0; omega⟩ : Fin 16384) (⟨128 + d.val, by omega⟩ : Fin 256)) (two (off5_eq (grid3.coords t) k) _ _ _ _ rfl rfl)).trans
      (in2 V c t _ _ _ _ (by show 64 * row0 (t'.val / 64) + j.val = _; rw [hr]) (by show 8192 + e'.val = _ + (128 + d.val); omega))
  have hkc : ∀ (n : Fin 256) (x : Fin 128), View.ld (iblk3 V c 3 t) (Rect.unit (s := S256x256) ![0, 128] S256x128.size inb_S256x256_S256x128_0_128) (ix2 n x)
      = V c main_v3 (ix2 n (⟨4096 + 128 * (e'.val / 128) + x.val, by omega⟩ : Fin 12288)) := fun n x =>
    (View.ld_unit_apply_of _ _ _ _ _ (ix2 n (⟨128 + x.val, by omega⟩ : Fin 256)) (two rfl _ _ _ _ (Nat.zero_add _).symm rfl)).trans
      (in3 V c t _ _ _ _ rfl (by show 4096 + 128 * (e'.val / 128) + x.val = _ + (128 + x.val); omega))
  have hvc : ∀ (n : Fin 256), View.ld (iblk3 V c 4 t) (Rect.unit (s := S256x256) ![0, 128] S256x128.size inb_S256x256_S256x128_0_128) (ix2 n d)
      = V c main_v3 (ix2 n (⟨8192 + e'.val, by omega⟩ : Fin 12288)) := fun n =>
    (View.ld_unit_apply_of _ _ _ _ _ (ix2 n (⟨128 + d.val, by omega⟩ : Fin 256)) (two rfl _ _ _ _ (Nat.zero_add _).symm rfl)).trans
      (in4 V c t _ _ _ _ rfl (by show 8192 + e'.val = _ + (128 + d.val); omega))
  have hT : ∀ (j : Fin 512), View.ld (iblk3 V c 5 t) (Rect.unit (s := S2x8x64x512) (k3_off6 (grid3.coords t) k) S1x1x64x512.size (k3_off6_inb (grid3.coords t) k)) (ix4 (0 : Fin 1) (0 : Fin 1) w j)
      = V c main_v5 (ix4 (⟨e'.val / 128, by omega⟩ : Fin 32) (⟨row0 (t'.val / 64) + 7 - t'.val / 64, by unfold row0; omega⟩ : Fin 8) (⟨t'.val % 64, by omega⟩ : Fin 64) j) := fun j =>
    (View.ld_unit_apply_of _ _ _ _ _ (ix4 (⟨1, by omega⟩ : Fin 2) (⟨row0 (row (grid3.coords t) k) + 7 - row (grid3.coords t) k, by rw [← hr]; unfold row0; omega⟩ : Fin 8) w j) (four (off6_eq (grid3.coords t) k) _ _ _ _ _ _ _ _ rfl rfl (Nat.zero_add _).symm (Nat.zero_add _).symm)).trans
      (in5 V c t _ _ _ _ _ _ _ hh (congrArg (fun r => row0 r + 7 - r) hr) hw)
  refine (head_apply _ _ _ _ _ _ w d).trans ?_
  unfold attAt
  simp only [q, hk1, hv, hkc, hvc, hT]

/-- The attention's region, whole: its result array is the attention of the projections and the table it finds. -/
theorem final3 : (dat3 V c).arrAt 6 cfg3.N = att (V c main_v2) (V c main_v3) (V c main_v5) := by
  refine (dat3 V c).arrAt_eq_of_covers 6 _ (by decide +kernel) fun t _ y => ?_
  blk_simp
  rw [after3_6]
  unfold outsAt3 out3_A_6
  rw [View.read_writes_eq_canon _ _ _ (fun y => cover3_A_6 _ _ _ _ _ _ _ _ _ _ _ _ _ _ _ _ _ _ _ _ _ _ y)]
  have e0 : (((win3_6.blk t).view.emb y) 0).val = 512 * ((grid3.coords t) 1).val + (y 0).val := by blk_simp [idx3 t] <;> omega
  have e1 : (((win3_6.blk t).view.emb y) 1).val = 256 * ((grid3.coords t) 0).val + (y 1).val := by blk_simp [idx3 t] <;> omega
  generalize (win3_6.blk t).view.emb y = z at e0 e1 ⊢
  refine View.canon_eq_of_allAt _ y _ (cover3_A_6 _ _ _ _ _ _ _ _ _ _ _ _ _ _ _ _ _ _ _ _ _ _ y) ?_
  refine all_pieces Variants.none c none (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) _
    (iblk3 V c 0 t) (iblk3 V c 1 t) (iblk3 V c 2 t) (iblk3 V c 3 t) (iblk3 V c 4 t) (iblk3 V c 5 t) _ ?_ ?_ k3_t1_loop.trips (Nat.le_refl _)
  · intro k (x : S64x128.Idx) hx
    have g0 : (k3_off4 k) 0 + 1 * (x 0).val = (y 0).val := congrArg (fun i : S512x256.Idx => (i 0).val) hx
    have g1 : (k3_off4 k) 1 + 1 * (x 1).val = (y 1).val := congrArg (fun i : S512x256.Idx => (i 1).val) hx
    have o0 : (k3_off4 k) 0 = 64 * k.val := congrFun (k3_off4_eq k) 0
    have o1 : (k3_off4 k) 1 = 128 := congrFun (k3_off4_eq k) 1
    have hx2 : x = ix2 (x 0) (x 1) := (ix2_eta x).symm
    rw [hx2]
    exact second_apply V c t k (x 0) (x 1) (z 0) (z 1) (by omega) (by omega)
  · intro k (x : S64x128.Idx) hx
    have g0 : (k3_off1 k) 0 + 1 * (x 0).val = (y 0).val := congrArg (fun i : S512x256.Idx => (i 0).val) hx
    have g1 : (k3_off1 k) 1 + 1 * (x 1).val = (y 1).val := congrArg (fun i : S512x256.Idx => (i 1).val) hx
    have o0 : (k3_off1 k) 0 = 64 * k.val := congrFun (k3_off1_eq k) 0
    have o1 : (k3_off1 k) 1 = 0 := congrFun (k3_off1_eq k) 1
    have hx2 : x = ix2 (x 0) (x 1) := (ix2_eta x).symm
    rw [hx2]
    exact first_apply V c t k (x 0) (x 1) (z 0) (z 1) (by omega) (by omega)

end Cert.KernelIdeal.Attention

end
-- ==== Proof.Run.lean ====
/-  The run of the whole kernel: it ends, the arguments as they were, the result array the fold of the five regions. -/
module

public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL Idealize.SL.Sem Idealize.SL.RA
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The projection, cast: what the first two products read. -/
theorem entry_v0 (c : Dev nD) : W1 m ρ c (Proc.devRef .tc main_v0)
    = (m ((c : Thread nD τ).loc main_arg2) : FVec Ideal S4096x12288 .f32) := by
  rfl

/-- The output projection, cast. -/
theorem entry_v1 (c : Dev nD) : W1 m ρ c (Proc.devRef .tc main_v1)
    = (m ((c : Thread nD τ).loc main_arg3) : FVec Ideal S4096x4096 .f32) := by
  rfl

end Cert.KernelIdeal.Whole

end
-- ==== Proof.WholeRun.lean ====
/-  The kernel run whole: the result array it ends with is the output projection of the attention of the projections. -/
module

public import proofs.«01_k».proof.Proof.Gen.KernelIdeal.Frame
public import proofs.«01_k».proof.Proof.Matmul
public import proofs.«01_k».proof.Proof.BiasTable
public import proofs.«01_k».proof.Proof.AttentionWhole
public import proofs.«01_k».proof.Proof.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Whole

open Cert.KernelIdeal Cert.KernelIdeal.Gen Cert.KernelIdeal.Products Cert.KernelIdeal.Bias Cert.KernelIdeal.Attention

/-- The flat bias table: head, row distance, lane distance. -/
def flat (b : FVec Ideal S32x15x31 .f32) : FVec Ideal S14880 .f32 := shapeCast S14880 b (by decide)

/-- What the kernel computes of its five arguments. -/
def result (hl : FVec Ideal S16384x4096 .bf16) (hc : FVec Ideal S256x4096 .bf16) (wqkv : FVec Ideal S4096x12288 .bf16) (wo : FVec Ideal S4096x4096 .bf16)
    (b : FVec Ideal S32x15x31 .f32) : FVec Ideal S16384x4096 .f32 :=
  prod4 (att (prod0 hl wqkv) (prod1 hc wqkv) (tab (flat b))) wo

variable (m : (ℓ : Loc nD τ sig) → Buf (Elt Ideal) ℓ) (ρ : Dev nD → PrngReg)

theorem v2_at (c : Dev nD) : W5 m ρ c (Proc.devRef .tc main_v2)
    = prod0 (m ((c : Thread nD τ).loc main_arg0)) (m ((c : Thread nD τ).loc main_arg2) : FVec Ideal S4096x12288 .f32) := by
  rw [W5_of m ρ c main_v2 (by decide), W4_of m ρ c main_v2 (by decide), W3_of m ρ c main_v2 (by decide)]
  refine (W2_arr m ρ c 2).trans ((final0 (V1 m ρ) c).trans ?_)
  exact congrArg₂ prod0 (W1_of m ρ c main_arg0 (by decide)) (entry_v0 m ρ c)

theorem v3_at (c : Dev nD) : W5 m ρ c (Proc.devRef .tc main_v3)
    = prod1 (m ((c : Thread nD τ).loc main_arg1)) (m ((c : Thread nD τ).loc main_arg2) : FVec Ideal S4096x12288 .f32) := by
  rw [W5_of m ρ c main_v3 (by decide), W4_of m ρ c main_v3 (by decide)]
  refine (W3_arr m ρ c 2).trans ((final1 (V2 m ρ) c).trans ?_)
  exact congrArg₂ prod1 ((W2_of m ρ c main_arg1 (by decide)).trans (W1_of m ρ c main_arg1 (by decide)))
    ((W2_of m ρ c main_v0 (by decide)).trans (entry_v0 m ρ c))

theorem v4_at (c : Dev nD) : W4 m ρ c (Proc.devRef .tc main_v4) = flat (m ((c : Thread nD τ).loc main_arg4)) := by
  have h : W3 m ρ c (Proc.devRef .tc main_arg4) = m ((c : Thread nD τ).loc main_arg4) :=
    (W3_of m ρ c main_arg4 (by decide)).trans ((W2_of m ρ c main_arg4 (by decide)).trans (W1_of m ρ c main_arg4 (by decide)))
  rw [← h]
  rfl

theorem v5_at (c : Dev nD) : W5 m ρ c (Proc.devRef .tc main_v5) = tab (flat (m ((c : Thread nD τ).loc main_arg4))) :=
  (W5_arr m ρ c 1).trans ((final2 (V4 m ρ) c).trans (congrArg tab (v4_at m ρ c)))

theorem v6_at (c : Dev nD) : W6 m ρ c (Proc.devRef .tc main_v6)
    = att (prod0 (m ((c : Thread nD τ).loc main_arg0)) (m ((c : Thread nD τ).loc main_arg2) : FVec Ideal S4096x12288 .f32))
        (prod1 (m ((c : Thread nD τ).loc main_arg1)) (m ((c : Thread nD τ).loc main_arg2) : FVec Ideal S4096x12288 .f32))
        (tab (flat (m ((c : Thread nD τ).loc main_arg4)))) := by
  refine (W6_arr m ρ c 6).trans ((final3 (V5 m ρ) c).trans ?_)
  show att (W5 m ρ c (Proc.devRef .tc main_v2)) (W5 m ρ c (Proc.devRef .tc main_v3)) (W5 m ρ c (Proc.devRef .tc main_v5)) = _
  rw [v2_at, v3_at, v5_at]

theorem v1_at (c : Dev nD) : W6 m ρ c (Proc.devRef .tc main_v1) = (m ((c : Thread nD τ).loc main_arg3) : FVec Ideal S4096x4096 .f32) := by
  rw [W6_of m ρ c main_v1 (by decide), W5_of m ρ c main_v1 (by decide), W4_of m ρ c main_v1 (by decide), W3_of m ρ c main_v1 (by decide), W2_of m ρ c main_v1 (by decide)]
  exact entry_v1 m ρ c

/-- The result array after the last region. -/
theorem value (c : Dev nD) : W7 m ρ c (Proc.devRef .tc main_v7)
    = result (m ((c : Thread nD τ).loc main_arg0)) (m ((c : Thread nD τ).loc main_arg1)) (m ((c : Thread nD τ).loc main_arg2) : FVec Ideal S4096x12288 .f32)
        (m ((c : Thread nD τ).loc main_arg3) : FVec Ideal S4096x4096 .f32) (m ((c : Thread nD τ).loc main_arg4)) := by
  refine (W7_arr m ρ c 2).trans ((final4 (V6 m ρ) c).trans ?_)
  show prod4 (W6 m ρ c (Proc.devRef .tc main_v6)) (W6 m ρ c (Proc.devRef .tc main_v1)) = _
  rw [v6_at, v1_at]
  rfl

set_option backward.isDefEq.respectTransparency.types false in
/-- Every run of the kernel ends with the result and with its arguments as they were. -/
theorem run : θ_run defs (onTc (τ := τ) (main (F := Ideal))) ⟨m, fun _ => 0, ρ⟩ (fun r => ∀ c : Dev nD,
      r.2.mem ((c.tc : Thread nD τ).loc main_v7)
        = result (m ((c.tc : Thread nD τ).loc main_arg0)) (m ((c.tc : Thread nD τ).loc main_arg1)) (m ((c.tc : Thread nD τ).loc main_arg2) : FVec Ideal S4096x12288 .f32)
          (m ((c.tc : Thread nD τ).loc main_arg3) : FVec Ideal S4096x4096 .f32) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => (fun c =>
      ⟨(h c _ (mem_uc main_v7 (by decide))).trans (value m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩))

end Cert.KernelIdeal.Whole

end
-- ==== Proof.Joined.lean ====
/-  The kernel's attention is the reference's: on real arguments the wide masked row with its late division is the
    softmax mean over the window, so the two results are one array. -/
module

public import proofs.«01_k».proof.Proof.RefValue
public import proofs.«01_k».proof.Proof.WholeRun

@[expose] public section

set_option maxRecDepth 16384

noncomputable section

namespace Cert.Joined

open Idealize.ShloMosaic Cert.ReferenceIdeal Cert.ReferenceIdeal.Read Cert.ReferenceIdeal.Index Cert.ReferenceIdeal.Scores
open Cert.ReferenceIdeal.Result Cert.Attn
open Cert.KernelIdeal.Products (prod0 prod1 prod4)
open Cert.KernelIdeal.Bias (start cell tab)
open Cert.KernelIdeal.Trip (row0)
open Cert.KernelIdeal.Attention (attAt att)
open Cert.KernelIdeal.Whole (flat result)

/-- An extended real that is a real. -/
def IsReal (x : EReal) : Prop := ∃ y : ℝ, x = y

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sum {n : ℕ} {f : Fin n → EReal} (hf : ∀ k, IsReal (f k)) : IsReal (∑ k, f k) := by
  choose g hg using hf
  exact ⟨∑ k, g k, by rw [← sum_coe]; exact Finset.sum_congr rfl fun k _ => hg k⟩

theorem isReal_scale : IsReal Scores.scale := by
  show IsReal (Ideal.ofBits .f32 0x3DB504F3#32)
  simp [Ideal.ofBits, Ideal.ieee]
  exact ⟨11863283 * ((2 : ℝ) ^ 27)⁻¹, by push_cast; rfl⟩

section Rows
variable (x0 : FVec Ideal S16384x4096 .bf16) (x1 : FVec Ideal S256x4096 .bf16) (x2 : FVec Ideal S4096x12288 .f32)
  (x3 : FVec Ideal S4096x4096 .f32) (x4 : FVec Ideal S32x15x31 .f32)

/-- The two programs' projections are the same sums. -/
theorem proj_eq : prod0 x0 x2 = val_main_v1 (F := Ideal) x0 x2 := by
  funext i
  rw [val_main_v1_apply]
  refine Finset.sum_congr rfl fun k _ => congrArg₂ (fun p q : EReal => p * q) (congrArg x0 ?_) (congrArg x2 ?_)
  · funext b; match b with | ⟨0, _⟩ => rfl | ⟨1, _⟩ => rfl
  · funext b; match b with | ⟨0, _⟩ => rfl | ⟨1, _⟩ => rfl

theorem ctxProj_eq : prod1 x1 x2 = val_main_v10 (F := Ideal) x1 x2 := by
  funext i
  rw [val_main_v10_apply]
  refine Finset.sum_congr rfl fun k _ => congrArg₂ (fun p q : EReal => p * q) (congrArg x1 ?_) (congrArg x2 ?_)
  · funext b; match b with | ⟨0, _⟩ => rfl | ⟨1, _⟩ => rfl
  · funext b; match b with | ⟨0, _⟩ => rfl | ⟨1, _⟩ => rfl

/-- The token `j` places after the first token of a query's wide row. -/
def wideTok (r : Fin 256) (j : Fin 512) : Fin 16384 := ⟨64 * row0 r.val + j.val, by unfold row0; omega⟩
/-- The first row offset of a query's wide row. -/
def wideOff (r : Fin 256) : Fin 8 := ⟨row0 r.val + 7 - r.val, by unfold row0; omega⟩

/-- The kernel's attention by lattice row, lane, head and coordinate. -/
theorem attAt_eq (Q : FVec Ideal S16384x12288 .f32) (C : FVec Ideal S256x12288 .f32) (T : FVec Ideal Cert.KernelIdeal.S32x8x64x512 .f32)
    (r : Fin 256) (w : Fin 64) (h : Fin 32) (d : Fin 128) :
    attAt Q C T (tok r w) (⟨128 * h.val + d.val, by omega⟩ : Fin 4096)
      = late (fun j : Fin 512 => (∑ c : Fin 128, Q (ix2 (tok r w) (qCol h c)) * Q (ix2 (wideTok r j) (kCol h c)) : EReal) * Scores.scale
              + T (ix4 h (wideOff r) w j))
          (fun n : Fin 256 => (∑ c : Fin 128, Q (ix2 (tok r w) (qCol h c)) * C (ix2 n (kCol h c)) : EReal) * Scores.scale)
          (fun j => Q (ix2 (wideTok r j) (vCol h d))) (fun n => C (ix2 n (vCol h d))) := by
  have e1 : (64 * r.val + w.val) / 64 = r.val := by omega
  have e2 : (64 * r.val + w.val) % 64 = w.val := by omega
  have e3 : (128 * h.val + d.val) / 128 = h.val := by omega
  unfold attAt
  simp only [tok, qCol, kCol, vCol, wideTok, wideOff, e1, e2, e3, ← Nat.add_assoc]
  rfl

/-- The window's places inside the wide row. -/
def place (w : Fin 64) (k : Fin 128) : Fin 512 := ⟨(k.val / 16) * 64 + start w.val + k.val % 16, by unfold start; omega⟩

theorem place_injective (w : Fin 64) : Function.Injective (place w) := by
  intro k k' e
  have e' : (k.val / 16) * 64 + start w.val + k.val % 16 = (k'.val / 16) * 64 + start w.val + k'.val % 16 := congrArg Fin.val e
  refine Fin.ext ?_
  unfold start at e'
  omega

/-- The table at a place of the window is the bias at the relative offsets. -/
theorem tab_place (r : Fin 256) (w : Fin 64) (h : Fin 32) (k : Fin 128) :
    tab (flat x4) (ix4 h (wideOff r) w (place w k))
      = x4 (ix3 h (offRow r ⟨k.val / 16, by omega⟩) (offLane w ⟨k.val % 16, by omega⟩)) := by
  have hs : start w.val ≤ 48 := by unfold start; omega
  have hin : start w.val ≤ ((k.val / 16) * 64 + start w.val + k.val % 16) % 64 ∧ ((k.val / 16) * 64 + start w.val + k.val % 16) % 64 < start w.val + 16 := by omega
  show cell _ w (⟨((k.val / 16) * 64 + start w.val + k.val % 16) % 64, by omega⟩ : Fin 64) = _
  unfold cell
  rw [dif_pos hin]
  unfold flat
  refine shapeCast_apply x4 _ _ (ix3 h (offRow r ⟨k.val / 16, by omega⟩) (offLane w ⟨k.val % 16, by omega⟩)) ?_
  rw [Shape.rowMajor_val_three, Shape.rowMajor_val_one]
  have hr : r.val ≤ row0 r.val + 7 := by unfold row0; omega
  have hw : w.val ≤ start w.val + 15 := by unfold start; omega
  dsimp [ix1, ix3, ix4, offRow, offLane, wideOff, place]
  omega

/-- Outside the window the table is −∞. -/
theorem tab_outside (r : Fin 256) (w : Fin 64) (h : Fin 32) (j : Fin 512) (hj : j ∉ Set.range (place w)) :
    tab (flat x4) (ix4 h (wideOff r) w j) = (⊥ : EReal) := by
  have hout : ¬(start w.val ≤ j.val % 64 ∧ j.val % 64 < start w.val + 16) := by
    intro hin
    refine hj ⟨⟨16 * (j.val / 64) + (j.val % 64 - start w.val), by omega⟩, Fin.ext ?_⟩
    show (16 * (j.val / 64) + (j.val % 64 - start w.val)) / 16 * 64 + start w.val + (16 * (j.val / 64) + (j.val % 64 - start w.val)) % 16 = j.val
    omega
  show cell _ w (⟨j.val % 64, by omega⟩ : Fin 64) = ⊥
  unfold cell
  rw [dif_neg hout]

/-- The token of a place in the wide row is the window's token. -/
theorem wideTok_place (r : Fin 256) (w : Fin 64) (k : Fin 128) :
    wideTok r (place w k) = tok (winRow r ⟨k.val / 16, by omega⟩) (winLane w ⟨k.val % 16, by omega⟩) := by
  refine Fin.ext ?_
  dsimp [wideTok, place, tok, winRow, winLane]
  omega

variable (h0 : ∀ i, IsReal (x0 i)) (h1 : ∀ i, IsReal (x1 i)) (h2 : ∀ i, IsReal (x2 i)) (h4 : ∀ i, IsReal (x4 i))
include h0 h2

theorem proj_real (i) : IsReal (val_main_v1 (F := Ideal) x0 x2 i) := by
  rw [val_main_v1_apply]
  exact isReal_sum fun k => isReal_mul (h0 _) (h2 _)

include h4 in
theorem win_real (r : Fin 256) (w : Fin 64) (h : Fin 32) (k : Fin 128) : IsReal (winAt x0 x2 x4 r w h k) :=
  isReal_add (isReal_mul (isReal_sum fun c => isReal_mul (proj_real x0 x2 h0 h2 _) (proj_real x0 x2 h0 h2 _)) isReal_scale) (h4 _)

omit h0 in
include h1 in
theorem ctxProj_real (i) : IsReal (val_main_v10 (F := Ideal) x1 x2 i) := by
  rw [val_main_v10_apply]
  exact isReal_sum fun k => isReal_mul (h1 _) (h2 _)

include h1 in
theorem ctx_real (r : Fin 256) (w : Fin 64) (h : Fin 32) (n : Fin 256) : IsReal (ctxScore x0 x1 x2 r w h n) :=
  isReal_mul (isReal_sum fun c => isReal_mul (proj_real x0 x2 h0 h2 _) (ctxProj_real x1 x2 h1 h2 _)) isReal_scale

include h1 h4 in
/-- The kernel's attention at a token and a column is the reference's. -/
theorem attention_eq (r : Fin 256) (w : Fin 64) (h : Fin 32) (d : Fin 128) :
    attAt (prod0 x0 x2) (prod1 x1 x2) (tab (flat x4)) (tok r w) (⟨128 * h.val + d.val, by omega⟩ : Fin 4096)
      = val_main_v131 (F := Ideal) x0 x1 x2 x4 (ix2 (tok r w) (⟨128 * h.val + d.val, by omega⟩ : Fin 4096)) := by
  rw [attention_at, proj_eq, ctxProj_eq, attAt_eq]
  choose s' hs' using fun k => win_real x0 x2 x4 h0 h2 h4 r w h k
  choose c hc using fun n => ctx_real x0 x1 x2 h0 h1 h2 r w h n
  choose v' hv' using fun k : Fin 128 => proj_real x0 x2 h0 h2 (ix2 (tok (winRow r ⟨k.val / 16, by omega⟩) (winLane w ⟨k.val % 16, by omega⟩)) (vCol h d))
  choose z hz using fun n : Fin 256 => ctxProj_real x1 x2 h1 h2 (ix2 n (vCol h d))
  have e1 : winAt x0 x2 x4 r w h = fun k => (s' k : EReal) := funext hs'
  have e2 : ctxScore x0 x1 x2 r w h = fun n => (c n : EReal) := funext hc
  have e3 : valAt x0 x2 r w h d = fun k => (v' k : EReal) := funext hv'
  have e4 : ctxValAt x1 x2 h d = fun n => (z n : EReal) := funext hz
  rw [e1, e2, e3, e4]
  refine Eq.trans (congrArg₂ (fun a b => late _ a _ b) (funext hc) (funext hz)) ?_
  refine late_window_eq_early (place w) (place_injective w) _ _ ?_ s' ?_ c v' ?_ z
  · intro j hj
    rw [tab_outside x4 r w h j hj]
    exact EReal.add_bot _
  · intro k
    rw [← hs' k, tab_place, wideTok_place]
    rfl
  · intro k
    rw [← hv' k, wideTok_place]

include h1 h4 in
/-- The two results are one array. -/
theorem result_eq : result x0 x1 x2 x3 x4 = val_main_v132 (F := Ideal) x0 x1 x2 x3 x4 := by
  funext i
  obtain ⟨t, n, rfl⟩ : ∃ (t : Fin 16384) (n : Fin 4096), i = ix2 t n := ⟨i 0, i 1, (ix2_eta i).symm⟩
  rw [result_at]
  unfold result prod4
  refine Finset.sum_congr rfl fun e _ => congrArg₂ (fun p q : EReal => p * q) ?_ rfl
  have k := attention_eq x0 x1 x2 x4 h0 h1 h2 h4 ⟨t.val / 64, by omega⟩ ⟨t.val % 64, by omega⟩ ⟨e.val / 128, by omega⟩ ⟨e.val % 128, by omega⟩
  have et : tok ⟨t.val / 64, by omega⟩ ⟨t.val % 64, by omega⟩ = t := Fin.ext (by dsimp [tok]; omega)
  have ee : (⟨128 * (e.val / 128) + e.val % 128, by omega⟩ : Fin 4096) = e := Fin.ext (by dsimp; omega)
  rw [et] at k
  dsimp only at k
  rw [ee] at k
  exact k

end Rows

end Cert.Joined
-- ==== Proof.Finite.lean ====
/-  The precondition's masks, read at an index: where they hold, every entry of the four arrays is a real. -/
module

public import proofs.«01_k».proof.Proof.Gen.Pre_finite
public import proofs.«01_k».proof.Proof.Joined

@[expose] public section

set_option maxRecDepth 16384

noncomputable section

namespace Cert.Finite

open Idealize.ShloMosaic Cert.Joined

/-- Strictly between the infinities, as the comparisons say it, is a real. -/
theorem isReal_of_bits {x t b : EReal} (ht : t = ⊤) (hb : b = ⊥)
    (h : IntOp.andi (Ideal.cmp .olt x t) (Ideal.cmp .ogt x b) = 1#1) : IsReal x := by
  subst ht hb
  have h1 : x < ⊤ := by
    by_contra hx
    simp [Ideal.cmp, hx, IntOp.andi] at h
  have h2 : ⊥ < x := by
    by_contra hx
    simp [Ideal.cmp, hx, IntOp.andi] at h
  exact ⟨x.toReal, (EReal.coe_toReal h1.ne h2.ne').symm⟩

theorem f32_inf : Ideal.ofBits .f32 0x7F800000#32 = (⊤ : EReal) := by simp [Ideal.ofBits, Ideal.ieee]
theorem f32_neg_inf : Ideal.ofBits .f32 0xFF800000#32 = (⊥ : EReal) := by simp [Ideal.ofBits, Ideal.ieee]
theorem bf16_inf : Ideal.ofBits .bf16 0x7F80#16 = (⊤ : EReal) := by simp [Ideal.ofBits, Ideal.ieee]
theorem bf16_neg_inf : Ideal.ofBits .bf16 0xFF80#16 = (⊥ : EReal) := by simp [Ideal.ofBits, Ideal.ieee]

open Cert.Pre_finite

variable (x0 : FVec Ideal S16384x4096 .bf16) (x1 : FVec Ideal S256x4096 .bf16) (x2 : FVec Ideal S4096x12288 .f32)
  (x3 : FVec Ideal S4096x4096 .f32) (x4 : FVec Ideal S32x15x31 .f32)

theorem first (h : (fn (F := Ideal) x0 x1 x2 x3 x4).1 = fun _ => 1#1) (i) : IsReal (x0 i) :=
  isReal_of_bits bf16_inf bf16_neg_inf (congrFun h i)
theorem second (h : (fn (F := Ideal) x0 x1 x2 x3 x4).2.1 = fun _ => 1#1) (i) : IsReal (x1 i) :=
  isReal_of_bits bf16_inf bf16_neg_inf (congrFun h i)
theorem third (h : (fn (F := Ideal) x0 x1 x2 x3 x4).2.2.1 = fun _ => 1#1) (i) : IsReal (x2 i) :=
  isReal_of_bits f32_inf f32_neg_inf (congrFun h i)
theorem fourth (h : (fn (F := Ideal) x0 x1 x2 x3 x4).2.2.2 = fun _ => 1#1) (i) : IsReal (x4 i) :=
  isReal_of_bits f32_inf f32_neg_inf (congrFun h i)

end Cert.Finite
-- ==== Proof.In.lean ====
/-  The recurrent block's combined projection: the tiled product of the rows with the weights is the reference's product. -/
module

public import proofs.«01_k».proof.Defs
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.ReferenceInIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelInIdeal.Value

open Cert.KernelInIdeal Cert.KernelInIdeal.Gen

variable (m : (ℓ : Loc nD τ sig) → Buf (Elt Ideal) ℓ)

/-- The reference's product. -/
abbrev REF (X : FVec Ideal S16384x4096 .bf16) (W : FVec Ideal S4096x8192 .f32) : FVec Ideal S16384x8192 .f32 :=
  Host.dotGeneral Cert.ReferenceInIdeal.dot_S16384x4096_S4096x8192_S16384x8192_1_0_0_1_n_n none
    (extf .f32 X Cert.ReferenceInIdeal.Gen.bitsLt_bf16_f32) W

/-- The block indices: row block, whole depth, column block. -/
theorem idx : ∀ t : Fin cfg0.N, win0_0.index t = ![t.val / 8, 0] ∧ win0_1.index t = ![0, t.val % 8]
    ∧ win0_2.index t = ![t.val / 8, t.val % 8] :=
  (by decide +kernel : ∀ t : Fin grid0.N, _)

/-- A stored block element is the product at its place in the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The product, whole. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the reference end with one array. -/
theorem value : Cert.algebraic_KernelInIdeal_ReferenceInIdeal := by
  pair_intro
  · run_from Cert.KernelInIdeal.Gen.run_main m g
  · run_from Cert.ReferenceInIdeal.Value.run m' g'
    exact (final m c).symm

/-- The reference runs, keeps its arguments and has no semaphore. -/
theorem frame_reference : Cert.quiescent_ReferenceInIdeal := by
  intro m g _
  exact (θ_run Cert.ReferenceInIdeal.defs _ _).mono (fun r h => ⟨fun c => (h c).2, sem_eq_zero_of_no_sems (by decide) r.2⟩)
    (Cert.ReferenceInIdeal.Value.run (F := Ideal) m g)

end Cert.KernelInIdeal.Value

end
-- ==== Proof.Out.lean ====
/-  The recurrent mixer's output: the two scans' sum, gated by the GELU of the projection's first half, times the output
    projection. The kernel does it in two pipelines; each one's array is described from its operands, then the two are joined. -/
module

public import proofs.«01_k».proof.Defs
public import proofs.«01_k».proof.Proof.Gen.KernelOutIdeal.Frame
public import proofs.«01_k».proof.Proof.Gen.ReferenceOutIdeal
public import proofs.«01_k».proof.Proof.Gen.ReferenceOutIdeal.Run
public import proofs.«01_k».proof.Proof.Gen.ReferenceOutIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelOutIdeal.Value

open Cert.KernelOutIdeal Cert.KernelOutIdeal.Gen

/-- The GELU in its tanh form. -/
def gelu (u : EReal) : EReal :=
  (Ideal.ofBits .f32 0x3F000000#32 * u) * (1
    + Ideal.tanh (Ideal.ofBits .f32 0x3F4C422A#32 * (u + Ideal.ofBits .f32 0x3D372713#32 * (u * u * u))))

/-- The gated sum of the two scans; the gate is the projection's first half. -/
def gated (A B : FVec Ideal S16384x4096 .f32) (P : FVec Ideal S16384x8192 .f32) : FVec Ideal S16384x4096 .bf16 :=
  fun i => (A i + B i) * gelu (P (ix2 (i 0) ⟨(i 1).val, by have : (i 1).val < 4096 := (i 1).isLt; omega⟩))

/-- The product of the gated rows with the output projection. -/
def prod (X : FVec Ideal S16384x4096 .bf16) (W : FVec Ideal S4096x4096 .bf16) : FVec Ideal S16384x4096 .f32 :=
  fun i => ∑ k : Fin 4096, X (ix2 (i 0) k) * W (ix2 k (i 1))

section Regions

variable (V : (c : Dev nD) → (b : Ref sig .tc) → Buf (Elt Ideal) ((c : Thread nD τ).loc b))

/-- The gating's block indices: every window takes row block `t`, the projection's its first column block. -/
theorem idx0 : ∀ t : Fin cfg0.N, win0_0.index t = ![t.val, 0] ∧ win0_1.index t = ![t.val, 0] ∧ win0_2.index t = ![t.val, 0]
    ∧ win0_3.index t = ![t.val, 0] :=
  (by decide +kernel : ∀ t : Fin grid0.N, _)

/-- The product's block indices: row block, whole depth, column block. -/
theorem idx1 : ∀ t : Fin cfg1.N, win1_0.index t = ![t.val / 4, 0] ∧ win1_1.index t = ![0, t.val % 4]
    ∧ win1_2.index t = ![t.val / 4, t.val % 4] :=
  (by decide +kernel : ∀ t : Fin grid1.N, _)

/-- What the gating stores, at an element. -/
theorem stored (v0 v1 v3 : Vec Ideal S256x4096 .f32) (y) : k0_pay1 v0 v1 v3 y = (v0 y + v1 y) * gelu (v3 y) := by
  pointwise [k0_pay1]
  rfl

/-- A gated block element is the gated sum at its place in the array. -/
theorem point0 (c : Dev nD) (t : Fin cfg0.N) (y) : k0_pay1 (iblk0 V c 0 t) (iblk0 V c 1 t) (iblk0 V c 2 t) y
    = gated (V c main_arg0) (V c main_arg1) (V c main_arg2) (((cfg0.win 3).blk t).view.emb y) := by
  rw [stored]
  unfold gated
  refine congrArg₂ (· * ·) (congrArg₂ (· + ·) ?_ ?_) (congrArg gelu ?_)
  · blk_point [iblk0, idx0 t]
  · blk_point [iblk0, idx0 t]
  · blk_point [iblk0, idx0 t]

/-- A product block element is the product at its place in the array. -/
theorem point1 (c : Dev nD) (t : Fin cfg1.N) (y) : k1_pay1 (iblk1 V c 0 t) (iblk1 V c 1 t) y
    = prod (V c main_v1) (V c main_v0) (((cfg1.win 2).blk t).view.emb y) := by
  pointwise [k1_pay1, prod]
  blk_point [iblk1, idx1 t]

/-- The gated sum, whole. -/
theorem final0 (c : Dev nD) : (dat0 V c).arrAt 3 cfg0.N = gated (V c main_arg0) (V c main_arg1) (V c main_arg2) := by
  refine (dat0 V c).arrAt_eq_of_covers 3 _ (by decide +kernel) fun t _ y => ?_
  blk_simp
  rw [after0_3]; frame_out
  exact point0 V c t y

/-- The product, whole. -/
theorem final1 (c : Dev nD) : (dat1 V c).arrAt 2 cfg1.N = prod (V c main_v1) (V c main_v0) := by
  refine (dat1 V c).arrAt_eq_of_covers 2 _ (by decide +kernel) fun t _ y => ?_
  blk_simp
  rw [after1_2]; frame_out
  exact point1 V c t y

end Regions

variable (m : (ℓ : Loc nD τ sig) → Buf (Elt Ideal) ℓ) (ρ : Dev nD → PrngReg)

/-- What the two pipelines compute of their four arguments. -/
def result (A B : FVec Ideal S16384x4096 .f32) (P : FVec Ideal S16384x8192 .f32) (W : FVec Ideal S4096x4096 .bf16) : FVec Ideal S16384x4096 .f32 :=
  prod (gated A B P) W

/-- The product's left operand. -/
theorem v1_at (c : Dev nD) : W2 m ρ c (Proc.devRef .tc main_v1)
    = gated (m ((c : Thread nD τ).loc main_arg0)) (m ((c : Thread nD τ).loc main_arg1)) (m ((c : Thread nD τ).loc main_arg2)) := by
  refine (W2_arr m ρ c 3).trans ((final0 (V1 m ρ) c).trans ?_)
  show gated (W1 m ρ c (Proc.devRef .tc main_arg0)) (W1 m ρ c (Proc.devRef .tc main_arg1)) (W1 m ρ c (Proc.devRef .tc main_arg2)) = _
  rw [W1_of m ρ c main_arg0 (by decide), W1_of m ρ c main_arg1 (by decide), W1_of m ρ c main_arg2 (by decide)]

/-- The product's right operand. -/
theorem v0_at (c : Dev nD) : W2 m ρ c (Proc.devRef .tc main_v0) = (m ((c : Thread nD τ).loc main_arg3) : FVec Ideal S4096x4096 .f32) := by
  rw [W2_of m ρ c main_v0 (by decide)]
  rfl

/-- The result array after the second pipeline. -/
theorem result_at (c : Dev nD) : W3 m ρ c (Proc.devRef .tc main_v2)
    = result (m ((c : Thread nD τ).loc main_arg0)) (m ((c : Thread nD τ).loc main_arg1)) (m ((c : Thread nD τ).loc main_arg2))
        (m ((c : Thread nD τ).loc main_arg3) : FVec Ideal S4096x4096 .f32) := by
  refine (W3_arr m ρ c 2).trans ((final1 (V2 m ρ) c).trans ?_)
  show prod (W2 m ρ c (Proc.devRef .tc main_v1)) (W2 m ρ c (Proc.devRef .tc main_v0)) = _
  rw [v1_at, v0_at]
  rfl

set_option backward.isDefEq.respectTransparency.types false in
/-- Every run of the kernel ends with the result and with its arguments as they were. -/
theorem run : θ_run defs (onTc (τ := τ) (main (F := Ideal))) ⟨m, fun _ => 0, ρ⟩ (fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2))
          (m ((c.tc : Thread nD τ).loc main_arg3) : FVec Ideal S4096x4096 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => (fun c =>
      ⟨(h c _ (mem_uc main_v2 (by decide))).trans (result_at m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩))

/-- The GELU with its argument first in the product. -/
theorem gelu_other (u : EReal) : gelu u = u * (Ideal.ofBits .f32 0x3F000000#32 * (Ideal.ofBits .f32 0x3F800000#32
    + Ideal.tanh (Ideal.ofBits .f32 0x3F4C422A#32 * (u + Ideal.ofBits .f32 0x3D372713#32 * (u * u * u))))) := by
  unfold gelu
  rw [Ideal.ofBits_one_f32, mul_comm (Ideal.ofBits .f32 0x3F000000#32) u, mul_assoc]

open Cert.ReferenceOutIdeal.Read in
/-- The reference's gated sum; its GELU multiplies in another order. -/
theorem ref_gated (A B : FVec Ideal S16384x4096 .f32) (P : FVec Ideal S16384x8192 .f32) (r : Fin 16384) (k : Fin 4096) :
    val_main_v15 (F := Ideal) A B P (ix2 r k) = gated A B P (ix2 r k) := by
  simp only [val_main_v15_apply, val_main_v14_apply, val_main_v13_apply, val_main_v12_apply, val_main_v11_apply, val_main_v10_apply, val_main_v9_apply,
    val_main_v8_apply, val_main_v7_apply, val_main_v6_apply, val_main_v5_apply, val_main_v4_apply, val_main_v3_apply, val_main_v2_apply, val_main_v1_apply, val_main_v0_apply]
  have e : idx_main_v1 (ix2 r k) = ix2 r ⟨k.val, by have := k.isLt; omega⟩ := funext fun b => match b with
    | ⟨0, _⟩ => rfl
    | ⟨1, _⟩ => rfl
  rw [e]
  unfold gated
  refine congrArg (fun z : EReal => (A (ix2 r k) + B (ix2 r k)) * z) ?_
  exact (gelu_other _).symm

open Cert.ReferenceOutIdeal.Read in
/-- The reference's result is the kernel's. -/
theorem ref_result (A B : FVec Ideal S16384x4096 .f32) (P : FVec Ideal S16384x8192 .f32) (W : FVec Ideal S4096x4096 .f32) :
    val_main_v16 (F := Ideal) A B P W = result A B P W := by
  funext i
  obtain ⟨r, n, rfl⟩ : ∃ r n, i = ix2 r n := ⟨_, _, eq_ix2 i⟩
  rw [val_main_v16_apply]
  unfold result prod
  refine Finset.sum_congr rfl fun k _ => congrArg₂ (fun p q : EReal => p * q) ?_ ?_
  · refine Eq.trans (congrArg (val_main_v15 (F := Ideal) A B P) (a₂ := ix2 r k) ?_) (ref_gated A B P r k)
    exact funext fun b => match b with
      | ⟨0, _⟩ => rfl
      | ⟨1, _⟩ => rfl
  · exact congrArg W (funext fun b => match b with
      | ⟨0, _⟩ => rfl
      | ⟨1, _⟩ => rfl)

/-- The results of equal arguments are equal. -/
theorem results {A A' B B' : FVec Ideal S16384x4096 .f32} {P P' : FVec Ideal S16384x8192 .f32} {W W' : FVec Ideal S4096x4096 .f32}
    (a : A' = A) (b : B' = B) (p : P' = P) (w : W' = W) :
    Cert.ReferenceOutIdeal.Read.val_main_v16 (F := Ideal) A' B' P' W' = result A B P W := by
  subst a b p w
  exact ref_result _ _ _ _

/-- The kernel and the reference end with one array. -/
theorem value : Cert.algebraic_KernelOutIdeal_ReferenceOutIdeal := by
  intro m g m' g' _ hagree
  exact ⟨_, run m g, (θ_run Cert.ReferenceOutIdeal.defs _ _).mono (fun r h c =>
    ⟨(h c).1.trans ((Cert.ReferenceOutIdeal.Read.val_main_v16_eq (F := Ideal) _ _ _ _).trans
      (results (hagree c).1 (hagree c).2.1 (hagree c).2.2.1 (hagree c).2.2.2)), (h c).2⟩)
    (Cert.ReferenceOutIdeal.Value.run (F := Ideal) m' g')⟩

/-- The reference runs, keeps its arguments and has no semaphore. -/
theorem frame_reference : Cert.quiescent_ReferenceOutIdeal := by
  intro m g _
  exact (θ_run Cert.ReferenceOutIdeal.defs _ _).mono (fun r h => ⟨fun c => (h c).2, sem_eq_zero_of_no_sems (by decide) r.2⟩)
    (Cert.ReferenceOutIdeal.Value.run (F := Ideal) m g)

end Cert.KernelOutIdeal.Value

end
-- ==== Proof.Query.lean ====
/-  The queries of the experts' keys: the tiled product of the rows with the weights is the reference's product. -/
module

public import proofs.«01_k».proof.Defs
public import proofs.«01_k».proof.Proof.Gen.KernelQueryIdeal.Frame
public import proofs.«01_k».proof.Proof.Gen.ReferenceQueryIdeal
public import proofs.«01_k».proof.Proof.Gen.ReferenceQueryIdeal.Run
public import proofs.«01_k».proof.Proof.Gen.ReferenceQueryIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelQueryIdeal.Value

open Cert.KernelQueryIdeal Cert.KernelQueryIdeal.Gen

variable (m : (ℓ : Loc nD τ sig) → Buf (Elt Ideal) ℓ)

/-- The reference's product, rounded. -/
abbrev REF (X : FVec Ideal S16384x4096 .bf16) (W : FVec Ideal S4096x2048 .f32) : FVec Ideal S16384x2048 .bf16 :=
  truncf .bf16 (Host.dotGeneral Cert.ReferenceQueryIdeal.dot_S16384x4096_S4096x2048_S16384x2048_1_0_0_1_n_n none
    (extf .f32 X Cert.ReferenceQueryIdeal.Gen.bitsLt_bf16_f32) W) Cert.ReferenceQueryIdeal.Gen.bitsLt_bf16_f32

/-- The block indices: row block, whole depth, column block. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- A stored block element is the product at its place in the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The product, whole. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the reference end with one array. -/
theorem value : Cert.algebraic_KernelQueryIdeal_ReferenceQueryIdeal := by
  pair_intro
  · run_from Cert.KernelQueryIdeal.Gen.run_main m g
  · run_from Cert.ReferenceQueryIdeal.Value.run m' g'
    exact (final m c).symm

/-- The reference runs, keeps its arguments and has no semaphore. -/
theorem frame_reference : Cert.quiescent_ReferenceQueryIdeal := by
  intro m g _
  exact (θ_run Cert.ReferenceQueryIdeal.defs _ _).mono (fun r h => ⟨fun c => (h c).2, sem_eq_zero_of_no_sems (by decide) r.2⟩)
    (Cert.ReferenceQueryIdeal.Value.run (F := Ideal) m g)

end Cert.KernelQueryIdeal.Value

end
-- ==== Proof.Norm.lean ====
/-  The last residual layer norm: the kernel's blocks of rows, normalized, are the reference's result. -/
module

public import proofs.«01_k».proof.Defs
public import proofs.«01_k».proof.Proof.Gen.KernelNormIdeal.Frame
public import proofs.«01_k».proof.Proof.Gen.ReferenceNormIdeal
public import proofs.«01_k».proof.Proof.Gen.ReferenceNormIdeal.Run
public import proofs.«01_k».proof.Proof.Gen.ReferenceNormIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelNormIdeal.Value

open Cert.KernelNormIdeal Cert.KernelNormIdeal.Gen

variable (m : (ℓ : Loc nD τ sig) → Buf (Elt Ideal) ℓ)

/-- The block indices: row block; the gate's chunk; the whole scale and shift. -/
theorem idx : ∀ t : Fin cfg0.N, win0_0.index t = ![t.val, 0] ∧ win0_1.index t = ![t.val, 0] ∧ win0_2.index t = ![3, 0, 5]
    ∧ win0_3.index t = ![0, 0] ∧ win0_4.index t = ![0, 0] ∧ win0_5.index t = ![t.val, 0] :=
  (by decide +kernel : ∀ t : Fin grid0.N, _)

/-- A row's mean. -/
def mean (z : Fin 4096 → EReal) : EReal := Ideal.div (∑ k : Fin 4096, z k) (Ideal.ofBits .f32 1166016512#32)

/-- A normalized row's entry: centred, divided by the deviation, scaled and shifted. -/
def entry (z : Fin 4096 → EReal) (g b : EReal) (j : Fin 4096) : EReal :=
  (z j - mean z) * Ideal.rsqrt (mean (fun k => (z k - mean z) * (z k - mean z)) + Ideal.ofBits .f32 897988541#32) * g + b

/-- The residual sum at a row: the stream, weighted, and the layer's output, gated. -/
def residual (X : FVec Ideal S16384x4096 .f32) (Y : FVec Ideal S16384x4096 .bf16) (M : FVec Ideal S4x8x24576 .f32) (r : Fin 16384) (k : Fin 4096) : EReal :=
  Ideal.ofBits .f32 1071072509#32 * X (ix2 r k) + M (ix3 3 0 ⟨20480 + k.val, by omega⟩) * Y (ix2 r k)

/-- The normalized stream. -/
def normed (X : FVec Ideal S16384x4096 .f32) (Y : FVec Ideal S16384x4096 .bf16) (M : FVec Ideal S4x8x24576 .f32)
    (G B : FVec Ideal S4096 .f32) : FVec Ideal S16384x4096 .f32 :=
  fun i => entry (residual X Y M (i 0)) (G (ix1 (i 1))) (B (ix1 (i 1))) (i 1)

/-- What the body stores, by the rows of its blocks. -/
theorem stored (v0 : Vec Ideal S256x4096 .f32) (v3 : Vec Ideal S1x1x4096 .f32) (v5 : Vec Ideal S256x4096 .bf16) (v26 : Vec Ideal S1x4096 .f32) (v30 : Vec Ideal S1x4096 .f32) (y) :
    k0_pay1 v0 v3 v5 v26 v30 y
      = entry (fun k => Ideal.ofBits .f32 1071072509#32 * v0 (ix2 (y 0) k) + v3 (ix3 0 0 k) * v5 (ix2 (y 0) k)) (v26 (ix2 0 (y 1))) (v30 (ix2 0 (y 1))) (y 1) := by
  obtain ⟨a, b, rfl⟩ : ∃ a b, y = ix2 a b := ⟨_, _, eq_ix2 y⟩
  pointwise [k0_pay1]
  rfl

/-- The scale's row, as the region finds it. -/
theorem scale_at (c : Dev nD) (j) : V m c main_v0 (ix2 0 j) = (m ((c : Thread nD τ).loc main_arg3) : FVec Ideal S4096 .f32) (ix1 j) := by
  have h : V m c main_v0 = shapeCast S1x4096 (m ((c : Thread nD τ).loc main_arg3) : FVec Ideal S4096 .f32) shapeCasts_S4096_S1x4096 := by
    entry_read
    rfl
  rw [h]
  exact shapeCast_apply _ _ _ (ix1 j) (by rewrite [Shape.rowMajor_val_two, Shape.rowMajor_val_one]; dsimp [ix1, ix2]; omega)

/-- The shift's row, as the region finds it. -/
theorem shift_at (c : Dev nD) (j) : V m c main_v1 (ix2 0 j) = (m ((c : Thread nD τ).loc main_arg4) : FVec Ideal S4096 .f32) (ix1 j) := by
  have h : V m c main_v1 = shapeCast S1x4096 (m ((c : Thread nD τ).loc main_arg4) : FVec Ideal S4096 .f32) shapeCasts_S4096_S1x4096 := by
    entry_read
    rfl
  rw [h]
  exact shapeCast_apply _ _ _ (ix1 j) (by rewrite [Shape.rowMajor_val_two, Shape.rowMajor_val_one]; dsimp [ix1, ix2]; omega)

/-- A stored row's place among the array's rows. -/
theorem row_at (t : Fin cfg0.N) (y) : (((cfg0.win 5).blk t).view.emb y 1) = y 1 := by
  refine Fin.ext ?_
  blk_point [idx t]

/-- A stored block element is the normalized stream at its place in the array. -/
theorem point (c : Dev nD) (t : Fin cfg0.N) (y) : k0_pay1 (iblk m c 0 t) (View.ld (iblk m c 2 t) r0_1) (iblk m c 1 t) (iblk m c 3 t) (iblk m c 4 t) y
    = normed (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  rw [stored]
  unfold normed
  refine congr (congr (congr (congrArg entry (funext fun k => ?_)) ?_) ?_) ?_
  · unfold residual
    refine congrArg₂ (· + ·) (congrArg (_ * ·) ?_) (congrArg₂ (· * ·) ?_ ?_)
    · blk_point [iblk, V, idx t]
    · blk_point [iblk, V, idx t]
    · blk_point [iblk, V, idx t]
  · rw [row_at]
    refine Eq.trans ?_ (scale_at m c (y 1))
    blk_point [iblk, idx t]
  · rw [row_at]
    refine Eq.trans ?_ (shift_at m c (y 1))
    blk_point [iblk, idx t]
  · exact (row_at t y).symm

/-- The normalized stream, whole. -/
theorem final (c : Dev nD) : (dats m 0 c).arrAt 5 (cfgs 0).N
    = normed (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

/-- The result array: the normalized stream with an axis of one in front. -/
theorem tail_at (c : Dev nD) : Pipeline.afterTail₀ cfgs (dats m) 0 (V0 m) [hostOps1] c main_v3
    = broadcastInDim S1x16384x4096 ![1, 2] bcast_S16384x4096_S1x16384x4096_1_2 ((dats m 0 c).arrAt 5 (cfgs 0).N : FVec Ideal S16384x4096 .f32) := by
  unfold Pipeline.afterTail₀
  have h := Pipeline.withArrays_arr spec0 launch0.win.arr_inj c (V0 m c) (fun w => (dats m 0 c).arrAt w (cfgs 0).N) 5
  exact congrArg (fun x : FVec Ideal S16384x4096 .f32 => broadcastInDim S1x16384x4096 ![1, 2] bcast_S16384x4096_S1x16384x4096_1_2 x) h

open Cert.ReferenceNormIdeal.Read in
/-- The reference's residual sum. -/
theorem ref_residual (X : FVec Ideal S16384x4096 .f32) (Y : FVec Ideal S16384x4096 .bf16) (M : FVec Ideal S4x8x24576 .f32) (i) :
    val_main_v8 (F := Ideal) X Y M i = residual X Y M (i 0) (i 1) := by
  obtain ⟨a, b, rfl⟩ : ∃ a b, i = ix2 a b := ⟨_, _, eq_ix2 i⟩
  rw [val_main_v8_apply, val_main_v3_apply, val_main_v7_apply, val_main_v6_apply, val_main_v5_apply, val_main_v1_apply, val_main_v0_apply, val_main_v2_apply]
  have e : idx_main_v0 (idx_main_v1 (idx_main_v5 (idx_main_v6 (ix2 a b)))) = ix3 3 0 ⟨20480 + b.val, by have := b.isLt; omega⟩ := by
    funext k
    refine Fin.ext ?_
    match k with
    | ⟨0, _⟩ => rfl
    | ⟨1, _⟩ => rfl
    | ⟨2, _⟩ => show 20480 + b.val % 4096 = 20480 + b.val; rw [Nat.mod_eq_of_lt b.isLt]
  rw [e]
  rfl

open Cert.ReferenceNormIdeal.Read in
/-- The reference's result is the normalized stream. -/
theorem ref_result (X : FVec Ideal S16384x4096 .f32) (Y : FVec Ideal S16384x4096 .bf16) (M : FVec Ideal S4x8x24576 .f32) (G B : FVec Ideal S4096 .f32) :
    val_main_v32 (F := Ideal) X Y M G B = normed X Y M G B := by
  funext i
  simp only [val_main_v32_apply, val_main_v29_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v27_apply, val_main_v28_apply, val_main_v30_apply, val_main_v31_apply, ref_residual]
  have z0 : val_main_cst_0 (F := Ideal) (Shape.Idx.first Cert.ReferenceNormIdeal.Gen.h_S_) = (0 : EReal) := Ideal.ofBits_zero .f32
  have z2 : val_main_cst_2 (F := Ideal) (Shape.Idx.first Cert.ReferenceNormIdeal.Gen.h_S_) = (0 : EReal) := Ideal.ofBits_zero .f32
  rw [z0, z2]
  have e1 : idx_main_v27 (idx_main_v28 i) = ix1 (i 1) := funext fun b => match b with | ⟨0, _⟩ => rfl
  have e2 : idx_main_v30 (idx_main_v31 i) = ix1 (i 1) := funext fun b => match b with | ⟨0, _⟩ => rfl
  rw [e1, e2]
  simp only [zero_add]
  rfl

/-- The kernel and the reference end with one array. -/
theorem value : Cert.algebraic_KernelNormIdeal_ReferenceNormIdeal := by
  pair_intro
  · run_from Cert.KernelNormIdeal.Gen.run_main m g & Cert.KernelNormIdeal.Gen.unchanged m g
  · run_from Cert.ReferenceNormIdeal.Value.run m' g'
    rw [tail_at, final, ← ref_result]
    rw [Cert.ReferenceNormIdeal.Read.val_main_v33_eq, (hagree c).1, (hagree c).2.1, (hagree c).2.2.1, (hagree c).2.2.2.1, (hagree c).2.2.2.2]
    rfl

/-- The reference runs, keeps its arguments and has no semaphore. -/
theorem frame_reference : Cert.quiescent_ReferenceNormIdeal := by
  intro m g _
  exact (θ_run Cert.ReferenceNormIdeal.defs _ _).mono (fun r h => ⟨fun c => (h c).2, sem_eq_zero_of_no_sems (by decide) r.2⟩)
    (Cert.ReferenceNormIdeal.Value.run (F := Ideal) m g)

end Cert.KernelNormIdeal.Value

end
-- ==== Proof.Next.lean ====
/-  The residual layer norm after the mixer, and the rows that it hands to the next sub-layer: two arrays of one call. -/
module

public import proofs.«01_k».proof.Defs
public import proofs.«01_k».proof.Proof.Gen.KernelNextIdeal.Frame
public import proofs.«01_k».proof.Proof.Gen.ReferenceNextIdeal
public import proofs.«01_k».proof.Proof.Gen.ReferenceNextIdeal.Run
public import proofs.«01_k».proof.Proof.Gen.ReferenceNextIdeal.Read
public import proofs.«01_k».proof.Proof.Norm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelNextIdeal.Value

open Cert.KernelNextIdeal Cert.KernelNextIdeal.Gen
open Cert.KernelNormIdeal.Value (mean entry)

variable (m : (ℓ : Loc nD τ sig) → Buf (Elt Ideal) ℓ)

/-- The block indices: row block; the chunks of the gate, the scale and the shift; the whole norm's scale and shift. -/
theorem idx : ∀ t : Fin cfg0.N, win0_0.index t = ![t.val, 0] ∧ win0_1.index t = ![t.val, 0] ∧ win0_2.index t = ![0, 0, 2]
    ∧ win0_3.index t = ![0, 0] ∧ win0_4.index t = ![0, 0] ∧ win0_5.index t = ![0, 0, 4] ∧ win0_6.index t = ![0, 0, 3]
    ∧ win0_7.index t = ![t.val, 0] ∧ win0_8.index t = ![t.val, 0] :=
  (by decide +kernel : ∀ t : Fin grid0.N, _)

/-- The residual sum at a row: the stream, weighted, and the mixer's output, gated. -/
def residual (X Y : FVec Ideal S16384x4096 .f32) (M : FVec Ideal S4x8x24576 .f32) (r : Fin 16384) (k : Fin 4096) : EReal :=
  Ideal.ofBits .f32 1071072509#32 * X (ix2 r k) + M (ix3 0 0 ⟨8192 + k.val, by omega⟩) * Y (ix2 r k)

/-- The normalized stream. -/
def normed (X Y : FVec Ideal S16384x4096 .f32) (M : FVec Ideal S4x8x24576 .f32) (G B : FVec Ideal S4096 .f32) : FVec Ideal S16384x4096 .f32 :=
  fun i => entry (residual X Y M (i 0)) (G (ix1 (i 1))) (B (ix1 (i 1))) (i 1)

/-- The next sub-layer's rows. -/
def rows (X Y : FVec Ideal S16384x4096 .f32) (M : FVec Ideal S4x8x24576 .f32) (G B : FVec Ideal S4096 .f32) : FVec Ideal S16384x4096 .bf16 :=
  fun i => normed X Y M G B i * (1 + M (ix3 0 0 ⟨16384 + (i 1).val, by have : (i 1).val < 4096 := (i 1).isLt; omega⟩))
    + M (ix3 0 0 ⟨12288 + (i 1).val, by have : (i 1).val < 4096 := (i 1).isLt; omega⟩)

/-- The stream the body stores, by the rows of its blocks. -/
theorem stored (v0 : Vec Ideal S256x4096 .f32) (v3 : Vec Ideal S1x1x4096 .f32) (v5 : Vec Ideal S256x4096 .f32) (v25 v29 : Vec Ideal S1x4096 .f32) (y) :
    k0_pay2 v0 v3 v5 v25 v29 y
      = entry (fun k => Ideal.ofBits .f32 1071072509#32 * v0 (ix2 (y 0) k) + v3 (ix3 0 0 k) * v5 (ix2 (y 0) k)) (v25 (ix2 0 (y 1))) (v29 (ix2 0 (y 1))) (y 1) := by
  obtain ⟨a, b, rfl⟩ : ∃ a b, y = ix2 a b := ⟨_, _, eq_ix2 y⟩
  pointwise [k0_pay2]
  rfl

/-- The rows the body stores. -/
theorem stored_rows (z : FVec Ideal S256x4096 .f32) (v34 v40 : Vec Ideal S1x1x4096 .f32) (y) :
    k0_pay1 z (k0_pay3 v34) v40 y = z y * (1 + v34 (ix3 0 0 (y 1))) + v40 (ix3 0 0 (y 1)) := by
  obtain ⟨a, b, rfl⟩ : ∃ a b, y = ix2 a b := ⟨_, _, eq_ix2 y⟩
  pointwise [k0_pay1, k0_pay3]

/-- The scale's row, as the region finds it. -/
theorem scale_at (c : Dev nD) (j) : V m c main_v0 (ix2 0 j) = (m ((c : Thread nD τ).loc main_arg3) : FVec Ideal S4096 .f32) (ix1 j) := by
  have h : V m c main_v0 = shapeCast S1x4096 (m ((c : Thread nD τ).loc main_arg3) : FVec Ideal S4096 .f32) shapeCasts_S4096_S1x4096 := by
    entry_read
    rfl
  rw [h]
  exact shapeCast_apply _ _ _ (ix1 j) (by rewrite [Shape.rowMajor_val_two, Shape.rowMajor_val_one]; dsimp [ix1, ix2]; omega)

/-- The shift's row, as the region finds it. -/
theorem shift_at (c : Dev nD) (j) : V m c main_v1 (ix2 0 j) = (m ((c : Thread nD τ).loc main_arg4) : FVec Ideal S4096 .f32) (ix1 j) := by
  have h : V m c main_v1 = shapeCast S1x4096 (m ((c : Thread nD τ).loc main_arg4) : FVec Ideal S4096 .f32) shapeCasts_S4096_S1x4096 := by
    entry_read
    rfl
  rw [h]
  exact shapeCast_apply _ _ _ (ix1 j) (by rewrite [Shape.rowMajor_val_two, Shape.rowMajor_val_one]; dsimp [ix1, ix2]; omega)

/-- A stored row's place among the array's rows. -/
theorem row_at (t : Fin cfg0.N) (y) : (((cfg0.win 7).blk t).view.emb y 1) = y 1 := by
  refine Fin.ext ?_
  blk_point [idx t]

/-- A stored block element of the stream is the normalized stream at its place in the array. -/
theorem point (c : Dev nD) (t : Fin cfg0.N) (y) : k0_pay2 (iblk m c 0 t) (View.ld (iblk m c 2 t) r0_1) (iblk m c 1 t) (iblk m c 3 t) (iblk m c 4 t) y
    = normed (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 7).blk t).view.emb y) := by
  rw [stored]
  unfold normed
  refine congr (congr (congr (congrArg entry (funext fun k => ?_)) ?_) ?_) ?_
  · unfold residual
    refine congrArg₂ (· + ·) (congrArg (_ * ·) ?_) (congrArg₂ (· * ·) ?_ ?_)
    · blk_point [iblk, V, idx t]
    · blk_point [iblk, V, idx t]
    · blk_point [iblk, V, idx t]
  · rw [row_at]
    refine Eq.trans ?_ (scale_at m c (y 1))
    blk_point [iblk, idx t]
  · rw [row_at]
    refine Eq.trans ?_ (shift_at m c (y 1))
    blk_point [iblk, idx t]
  · exact (row_at t y).symm

/-- The two results' blocks lie alike. -/
theorem same_place (t : Fin cfg0.N) (y) : (((cfg0.win 8).blk t).view.emb y : S16384x4096.Idx) = ((cfg0.win 7).blk t).view.emb y := by
  rfl

/-- A stored block element of the rows is the next sub-layer's at its place in the array. -/
theorem point_rows (c : Dev nD) (t : Fin cfg0.N) (y) :
    k0_pay1 (k0_pay2 (iblk m c 0 t) (View.ld (iblk m c 2 t) r0_1) (iblk m c 1 t) (iblk m c 3 t) (iblk m c 4 t))
      (k0_pay3 (View.ld (iblk m c 5 t) r0_1)) (View.ld (iblk m c 6 t) r0_1) y
    = rows (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 8).blk t).view.emb y) := by
  rw [stored_rows, same_place]
  unfold rows
  refine congrArg₂ (· + ·) (congrArg₂ (· * ·) (point m c t y) (congrArg (1 + ·) ?_)) ?_
  · blk_point [iblk, V, idx t]
  · blk_point [iblk, V, idx t]

/-- The normalized stream, whole. -/
theorem final (c : Dev nD) : (dats m 0 c).arrAt 7 (cfgs 0).N
    = normed (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t _ y => ?_
  blk_simp
  rw [after0_7]; frame_out
  exact point m c t y

/-- The next sub-layer's rows, whole. -/
theorem final_rows (c : Dev nD) : (dats m 0 c).arrAt 8 (cfgs 0).N
    = rows (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t _ y => ?_
  blk_simp
  rw [after0_8]; frame_out
  exact point_rows m c t y

open Cert.ReferenceNextIdeal.Read in
/-- The reference's residual sum. -/
theorem ref_residual (X Y : FVec Ideal S16384x4096 .f32) (M : FVec Ideal S4x8x24576 .f32) (i) :
    val_main_v11 (F := Ideal) X Y M i = residual X Y M (i 0) (i 1) := by
  obtain ⟨a, b, rfl⟩ : ∃ a b, i = ix2 a b := ⟨_, _, eq_ix2 i⟩
  rw [val_main_v11_apply, val_main_v7_apply, val_main_v10_apply, val_main_v9_apply, val_main_v8_apply, val_main_v1_apply, val_main_v0_apply, val_main_v6_apply]
  have e : idx_main_v0 (idx_main_v1 (idx_main_v8 (idx_main_v9 (ix2 a b)))) = ix3 0 0 ⟨8192 + b.val, by have := b.isLt; omega⟩ := by
    funext k
    refine Fin.ext ?_
    match k with
    | ⟨0, _⟩ => rfl
    | ⟨1, _⟩ => rfl
    | ⟨2, _⟩ => show 8192 + b.val % 4096 = 8192 + b.val; rw [Nat.mod_eq_of_lt b.isLt]
  rw [e]
  rfl

open Cert.ReferenceNextIdeal.Read in
/-- The reference's stream is the normalized stream. -/
theorem ref_result (X Y : FVec Ideal S16384x4096 .f32) (M : FVec Ideal S4x8x24576 .f32) (G B : FVec Ideal S4096 .f32) :
    val_main_v35 (F := Ideal) X Y M G B = normed X Y M G B := by
  funext i
  simp only [val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, ref_residual]
  have z0 : val_main_cst_0 (F := Ideal) (Shape.Idx.first Cert.ReferenceNextIdeal.Gen.h_S_) = (0 : EReal) := Ideal.ofBits_zero .f32
  have z2 : val_main_cst_2 (F := Ideal) (Shape.Idx.first Cert.ReferenceNextIdeal.Gen.h_S_) = (0 : EReal) := Ideal.ofBits_zero .f32
  rw [z0, z2]
  have e1 : idx_main_v30 (idx_main_v31 i) = ix1 (i 1) := funext fun b => match b with | ⟨0, _⟩ => rfl
  have e2 : idx_main_v33 (idx_main_v34 i) = ix1 (i 1) := funext fun b => match b with | ⟨0, _⟩ => rfl
  rw [e1, e2]
  simp only [zero_add]
  rfl

open Cert.ReferenceNextIdeal.Read in
/-- The reference's rows are the next sub-layer's. -/
theorem ref_rows (X Y : FVec Ideal S16384x4096 .f32) (M : FVec Ideal S4x8x24576 .f32) (G B : FVec Ideal S4096 .f32) :
    val_main_v44 (F := Ideal) X Y M G B = rows X Y M G B := by
  funext i
  obtain ⟨a, b, rfl⟩ : ∃ a b, i = ix2 a b := ⟨_, _, eq_ix2 i⟩
  rw [val_main_v44_apply, val_main_v43_apply, val_main_v42_apply, val_main_v41_apply, val_main_v40_apply, val_main_v39_apply, val_main_v38_apply, val_main_v37_apply,
    val_main_v36_apply, val_main_v5_apply, val_main_v4_apply, val_main_v3_apply, val_main_v2_apply, val_main_cst_5_apply, ref_result]
  have es : idx_main_v4 (idx_main_v5 (idx_main_v38 (idx_main_v39 (ix2 a b)))) = ix3 0 0 ⟨16384 + b.val, by have := b.isLt; omega⟩ := by
    funext k
    refine Fin.ext ?_
    match k with
    | ⟨0, _⟩ => rfl
    | ⟨1, _⟩ => rfl
    | ⟨2, _⟩ => show 16384 + b.val % 4096 = 16384 + b.val; rw [Nat.mod_eq_of_lt b.isLt]
  have eh : idx_main_v2 (idx_main_v3 (idx_main_v41 (idx_main_v42 (ix2 a b)))) = ix3 0 0 ⟨12288 + b.val, by have := b.isLt; omega⟩ := by
    funext k
    refine Fin.ext ?_
    match k with
    | ⟨0, _⟩ => rfl
    | ⟨1, _⟩ => rfl
    | ⟨2, _⟩ => show 12288 + b.val % 4096 = 12288 + b.val; rw [Nat.mod_eq_of_lt b.isLt]
  rw [es, eh]
  show normed X Y M G B (ix2 a b) * (Ideal.ofBits .f32 0x3F800000#32 + M _) + M _ = _
  rw [Ideal.ofBits_one_f32]
  rfl

/-- The kernel and the reference end with the same two arrays. -/
theorem value : Cert.algebraic_KernelNextIdeal_ReferenceNextIdeal := by
  pair_intro
  · run_from Cert.KernelNextIdeal.Gen.run_main m g & Cert.KernelNextIdeal.Gen.unchanged m g
  · run_from Cert.ReferenceNextIdeal.Value.run m' g'
    · rw [Cert.ReferenceNextIdeal.Read.val_main_v35_eq m' c, (hagree c).1, (hagree c).2.1, (hagree c).2.2.1, (hagree c).2.2.2.1, (hagree c).2.2.2.2]
      exact (ref_result _ _ _ _ _).trans (final m c).symm
    · rw [Cert.ReferenceNextIdeal.Read.val_main_v44_eq m' c, (hagree c).1, (hagree c).2.1, (hagree c).2.2.1, (hagree c).2.2.2.1, (hagree c).2.2.2.2]
      exact (ref_rows _ _ _ _ _).trans (final_rows m c).symm

/-- The reference runs, keeps its arguments and has no semaphore. -/
theorem frame_reference : Cert.quiescent_ReferenceNextIdeal := by
  intro m g _
  exact (θ_run Cert.ReferenceNextIdeal.defs _ _).mono (fun r h => ⟨fun c => (h c).2.2, sem_eq_zero_of_no_sems (by decide) r.2⟩)
    (Cert.ReferenceNextIdeal.Value.run (F := Ideal) m g)

end Cert.KernelNextIdeal.Value

end
-- ==== Proof.Rows.lean ====
/-  The first rows: the stream, scaled and shifted by its layer's modulation. -/
module

public import proofs.«01_k».proof.Defs
public import proofs.«01_k».proof.Proof.Gen.KernelRowsIdeal.Frame
public import proofs.«01_k».proof.Proof.Gen.ReferenceRowsIdeal
public import proofs.«01_k».proof.Proof.Gen.ReferenceRowsIdeal.Run
public import proofs.«01_k».proof.Proof.Gen.ReferenceRowsIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelRowsIdeal.Value

open Cert.KernelRowsIdeal Cert.KernelRowsIdeal.Gen

variable (m : (ℓ : Loc nD τ sig) → Buf (Elt Ideal) ℓ)

/-- The block indices: row block; the scale's and the shift's chunk. -/
theorem idx : ∀ t : Fin cfg0.N, win0_0.index t = ![t.val, 0] ∧ win0_1.index t = ![0, 0, 1] ∧ win0_2.index t = ![0, 0, 0]
    ∧ win0_3.index t = ![t.val, 0] :=
  (by decide +kernel : ∀ t : Fin grid0.N, _)

/-- The modulated rows. -/
def rows (X : FVec Ideal S16384x4096 .f32) (M : FVec Ideal S4x8x24576 .f32) : FVec Ideal S16384x4096 .bf16 :=
  fun i => X i * (1 + M (ix3 0 0 ⟨4096 + (i 1).val, by have : (i 1).val < 4096 := (i 1).isLt; omega⟩))
    + M (ix3 0 0 ⟨(i 1).val, by have : (i 1).val < 4096 := (i 1).isLt; omega⟩)

/-- What the body stores, by the elements of its blocks. -/
theorem stored (v0 v2 : Vec Ideal S1x1x4096 .f32) (v4 : Vec Ideal S256x4096 .f32) (y) :
    k0_pay1 v0 v2 v4 y = v4 y * (1 + v0 (ix3 0 0 (y 1))) + v2 (ix3 0 0 (y 1)) := by
  obtain ⟨a, b, rfl⟩ : ∃ a b, y = ix2 a b := ⟨_, _, eq_ix2 y⟩
  pointwise [k0_pay1]

/-- A stored block element is the modulated row's at its place in the array. -/
theorem point (c : Dev nD) (t : Fin cfg0.N) (y) : k0_pay1 (View.ld (iblk m c 1 t) r0_0) (View.ld (iblk m c 2 t) r0_0) (iblk m c 0 t) y
    = rows (m ((c : Thread nD τ).loc main_arg0)) (m ((c : Thread nD τ).loc main_arg1)) (((cfg0.win 3).blk t).view.emb y) := by
  rw [stored]
  unfold rows
  refine congrArg₂ (· + ·) (congrArg₂ (· * ·) ?_ (congrArg (1 + ·) ?_)) ?_
  · blk_point [iblk, V, idx t]
  · blk_point [iblk, V, idx t]
  · blk_point [iblk, V, idx t]

/-- The modulated rows, whole. -/
theorem final (c : Dev nD) : (dats m 0 c).arrAt 3 (cfgs 0).N
    = rows (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

open Cert.ReferenceRowsIdeal.Read in
/-- The reference's result is the modulated rows. -/
theorem ref_result (X : FVec Ideal S16384x4096 .f32) (M : FVec Ideal S4x8x24576 .f32) :
    val_main_v12 (F := Ideal) X M = rows X M := by
  funext i
  obtain ⟨a, b, rfl⟩ : ∃ a b, i = ix2 a b := ⟨_, _, eq_ix2 i⟩
  simp only [val_main_v12_apply, val_main_v11_apply, val_main_v10_apply, val_main_v9_apply, val_main_v8_apply, val_main_v7_apply, val_main_v6_apply, val_main_v5_apply,
    val_main_v4_apply, val_main_v3_apply, val_main_v2_apply, val_main_v1_apply, val_main_v0_apply, val_main_cst_apply]
  have es : idx_main_v2 (idx_main_v3 (idx_main_v6 (idx_main_v7 (ix2 a b)))) = ix3 0 0 ⟨4096 + b.val, by have := b.isLt; omega⟩ := by
    funext k
    refine Fin.ext ?_
    match k with
    | ⟨0, _⟩ => rfl
    | ⟨1, _⟩ => rfl
    | ⟨2, _⟩ => show 4096 + b.val % 4096 = 4096 + b.val; rw [Nat.mod_eq_of_lt b.isLt]
  have eh : idx_main_v0 (idx_main_v1 (idx_main_v9 (idx_main_v10 (ix2 a b)))) = ix3 0 0 ⟨b.val, by have := b.isLt; omega⟩ := by
    funext k
    refine Fin.ext ?_
    match k with
    | ⟨0, _⟩ => rfl
    | ⟨1, _⟩ => rfl
    | ⟨2, _⟩ => show b.val % 4096 = b.val; exact Nat.mod_eq_of_lt b.isLt
  rw [es, eh]
  show X (ix2 a b) * (Ideal.ofBits .f32 0x3F800000#32 + M _) + M _ = _
  rw [Ideal.ofBits_one_f32]
  rfl

/-- The results of equal arguments are equal. -/
theorem results {X X' : FVec Ideal S16384x4096 .f32} {M M' : FVec Ideal S4x8x24576 .f32} (x : X' = X) (u : M' = M) :
    Cert.ReferenceRowsIdeal.Read.val_main_v12 (F := Ideal) X' M' = rows X M := by
  subst x u
  exact ref_result _ _

/-- The kernel and the reference end with one array. -/
theorem value : Cert.algebraic_KernelRowsIdeal_ReferenceRowsIdeal := by
  pair_intro
  · run_from Cert.KernelRowsIdeal.Gen.run_main m g
  · run_from Cert.ReferenceRowsIdeal.Value.run m' g'
    refine Eq.trans (results rfl rfl) (Eq.trans ?_ (final m c).symm)
    rfl

/-- The reference runs, keeps its arguments and has no semaphore. -/
theorem frame_reference : Cert.quiescent_ReferenceRowsIdeal := by
  intro m g _
  exact (θ_run Cert.ReferenceRowsIdeal.defs _ _).mono (fun r h => ⟨fun c => (h c).2, sem_eq_zero_of_no_sems (by decide) r.2⟩)
    (Cert.ReferenceRowsIdeal.Value.run (F := Ideal) m g)

end Cert.KernelRowsIdeal.Value

end
-- ==== Proof.Cond.lean ====
/-  The modulation of every layer: the conditioning rows through the SiLU, times the layers' weights, plus their biases. -/
module

public import proofs.«01_k».proof.Defs
public import proofs.«01_k».proof.Proof.Gen.KernelCondIdeal.Frame
public import proofs.«01_k».proof.Proof.Gen.ReferenceCondIdeal
public import proofs.«01_k».proof.Proof.Gen.ReferenceCondIdeal.Run
public import proofs.«01_k».proof.Proof.Gen.ReferenceCondIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelCondIdeal.Value

open Cert.KernelCondIdeal Cert.KernelCondIdeal.Gen

variable (m : (ℓ : Loc nD τ sig) → Buf (Elt Ideal) ℓ)

/-- The block indices: the conditioning whole; layer `t / 48` and its column block `t % 48`. -/
theorem idx : ∀ t : Fin cfg0.N, win0_0.index t = ![0, 0] ∧ win0_1.index t = ![t.val / 48, 0, t.val % 48]
    ∧ win0_2.index t = ![t.val / 48, 0, t.val % 48] ∧ win0_3.index t = ![t.val / 48, 0, t.val % 48] :=
  (by decide +kernel : ∀ t : Fin grid0.N, _)

/-- The SiLU. -/
def silu (u : EReal) : EReal := u * Ideal.div 1 (1 + Ideal.exp (-u))

/-- The modulation of layer `i 0` by row `i 1` of the conditioning. -/
def modulation (X : FVec Ideal S8x4096 .f32) (W : FVec Ideal S4x4096x24576 .f32) (B : FVec Ideal S4x24576 .f32) : FVec Ideal S4x8x24576 .f32 :=
  fun i => ∑ k : Fin 4096, silu (X (ix2 (i 1) k)) * W (ix3 (i 0) k (i 2)) + B (ix2 (i 0) (i 2))

/-- What the body stores, at an element. -/
theorem stored (v0 : Vec Ideal S8x4096 .f32) (v10 : Vec Ideal S1x4096x512 .f32) (v14 : Vec Ideal S1x1x512 .f32) (y) :
    k0_pay1 v0 v10 v14 y = ∑ k : Fin 4096, silu (v0 (ix2 (y 1) k)) * v10 (ix3 0 k (y 2)) + v14 (ix3 0 0 (y 2)) := by
  obtain ⟨a, b, c, rfl⟩ : ∃ a b c, y = ix3 a b c := ⟨_, _, _, eq_ix3 y⟩
  obtain rfl : a = 0 := Subsingleton.elim _ _
  unfold silu
  pointwise [k0_pay1]
  simp only [zero_sub]

/-- The biases' array, as the window reads it: each layer's row by itself. -/
theorem bias_at (c : Dev nD) (l : Fin 4) (j : Fin 24576) : V m c main_v0 (ix3 l 0 j) = (m ((c : Thread nD τ).loc main_arg2) : FVec Ideal S4x24576 .f32) (ix2 l j) := by
  have h : V m c main_v0 = shapeCast S4x1x24576 (m ((c : Thread nD τ).loc main_arg2) : FVec Ideal S4x24576 .f32) shapeCasts_S4x24576_S4x1x24576 := by
    entry_read
    rfl
  rw [h]
  exact shapeCast_apply _ _ _ (ix2 l j) (by rewrite [Shape.rowMajor_val_three, Shape.rowMajor_val_two]; dsimp [ix2, ix3]; omega)

/-- A stored block element is the modulation at its place in the array. -/
theorem point (c : Dev nD) (t : Fin cfg0.N) (y) : k0_pay1 (iblk m c 0 t) (iblk m c 1 t) (iblk m c 2 t) y
    = modulation (m ((c : Thread nD τ).loc main_arg0)) (m ((c : Thread nD τ).loc main_arg1)) (m ((c : Thread nD τ).loc main_arg2)) (((cfg0.win 3).blk t).view.emb y) := by
  rw [stored]
  unfold modulation
  refine congrArg₂ (· + ·) (Finset.sum_congr rfl fun k _ => congrArg₂ (· * ·) (congrArg silu ?_) ?_) ?_
  · blk_point [iblk, V, idx t]
  · blk_point [iblk, V, idx t]
  · refine Eq.trans ?_ (bias_at m c _ _)
    blk_point [iblk, idx t]

/-- The modulation, whole. -/
theorem final (c : Dev nD) : (dats m 0 c).arrAt 3 (cfgs 0).N
    = modulation (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

open Cert.ReferenceCondIdeal.Read in
/-- The reference's SiLU. -/
theorem ref_silu (X : FVec Ideal S8x4096 .f32) (i) : val_main_v0 (F := Ideal) X i = silu (X i) := by
  rw [val_main_v0_apply, val_main_call0_v5_apply, val_main_call0_v4_apply, val_main_call0_v3_apply, val_main_call0_v2_apply, val_main_call0_v1_apply, val_main_call0_v0_apply,
    val_main_call0_cst_apply, val_main_call0_cst_0_apply]
  show X i * Ideal.div (Ideal.ofBits .f32 0x3F800000#32) (Ideal.ofBits .f32 0x3F800000#32 + Ideal.exp (-(X i))) = _
  rw [Ideal.ofBits_one_f32]
  rfl

open Cert.ReferenceCondIdeal.Read in
/-- The reference's result is the modulation; its products have the weight first. -/
theorem ref_result (X : FVec Ideal S8x4096 .f32) (W : FVec Ideal S4x4096x24576 .f32) (B : FVec Ideal S4x24576 .f32) :
    val_main_v5 (F := Ideal) X W B = modulation X W B := by
  funext i
  obtain ⟨l, r, j, rfl⟩ : ∃ l r j, i = ix3 l r j := ⟨_, _, _, eq_ix3 i⟩
  rw [val_main_v5_apply, val_main_v4_apply, val_main_v3_apply, val_main_v2_apply, val_main_v1_apply]
  unfold modulation
  refine congrArg₂ (fun p q : EReal => p + q) (Finset.sum_congr rfl fun k _ => ?_) ?_
  · rw [ref_silu, mul_comm]
    refine congrArg₂ (fun p q : EReal => p * q) (congrArg silu (congrArg X ?_)) (congrArg W ?_)
    · exact funext fun b => match b with
        | ⟨0, _⟩ => rfl
        | ⟨1, _⟩ => rfl
    · exact funext fun b => match b with
        | ⟨0, _⟩ => rfl
        | ⟨1, _⟩ => rfl
        | ⟨2, _⟩ => rfl
  · exact congrArg B (funext fun b => match b with
      | ⟨0, _⟩ => rfl
      | ⟨1, _⟩ => rfl)

/-- The kernel and the reference end with one array. -/
theorem value : Cert.algebraic_KernelCondIdeal_ReferenceCondIdeal := by
  pair_intro
  · run_from Cert.KernelCondIdeal.Gen.run_main m g & Cert.KernelCondIdeal.Gen.unchanged m g
  · run_from Cert.ReferenceCondIdeal.Value.run m' g'
    refine (Cert.ReferenceCondIdeal.Read.val_main_v5_eq (F := Ideal) _ _ _).trans ?_
    exact (ref_result _ _ _).trans (final m c).symm

/-- The reference runs, keeps its arguments and has no semaphore. -/
theorem frame_reference : Cert.quiescent_ReferenceCondIdeal := by
  intro m g _
  exact (θ_run Cert.ReferenceCondIdeal.defs _ _).mono (fun r h => ⟨fun c => (h c).2, sem_eq_zero_of_no_sems (by decide) r.2⟩)
    (Cert.ReferenceCondIdeal.Value.run (F := Ideal) m g)

end Cert.KernelCondIdeal.Value

end
-- ==== Proof.Context.lean ====
/-  The context's own attention and its output projection: every head of every context row, softmaxed over the context, then
    the product. The kernel does it in two pipelines; each one's array is described from its operands, then the two are joined. -/
module

public import proofs.«01_k».proof.Defs
public import proofs.«01_k».proof.Proof.Gen.KernelContextIdeal.Frame
public import proofs.«01_k».proof.Proof.Gen.ReferenceContextIdeal
public import proofs.«01_k».proof.Proof.Gen.ReferenceContextIdeal.Run
public import proofs.«01_k».proof.Proof.Gen.ReferenceContextIdeal.Read
public import proofs.«01_k».proof.Proof.Finite
public import proofs.«01_k».proof.Proof.Gen.Pre_finite_context
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelContextIdeal.Value

open Cert.KernelContextIdeal Cert.KernelContextIdeal.Gen
open Cert.Attn (sum_coe exp_sub_real div_real top top_real)
open Cert.Joined (IsReal isReal_mul isReal_sum isReal_scale)

/-- The scores' scale, the rounded inverse root of the head's width. -/
abbrev scale : EReal := Ideal.ofBits .f32 0x3DB504F3#32

/-- A row's softmax mean with the divisor applied once, to the finished sum. -/
def late (s v : Fin 256 → EReal) : EReal :=
  Ideal.div (∑ n, Ideal.exp (s n - Finset.univ.sup s) * v n) (∑ n, Ideal.exp (s n - Finset.univ.sup s))

/-- A row's softmax mean with every weight divided first. -/
def early (s v : Fin 256 → EReal) : EReal :=
  ∑ n, v n * Ideal.div (Ideal.exp (s n - Finset.univ.sup s)) (∑ n, Ideal.exp (s n - Finset.univ.sup s))

/-- For real rows it does not matter when the divisor is applied. -/
theorem late_eq_early (s v : Fin 256 → EReal) (hs : ∀ n, IsReal (s n)) (hv : ∀ n, IsReal (v n)) : late s v = early s v := by
  choose s' hs' using hs
  choose v' hv' using hv
  obtain rfl : s = fun n => (s' n : EReal) := funext hs'
  obtain rfl : v = fun n => (v' n : EReal) := funext hv'
  obtain ⟨M, hM⟩ : ∃ M : ℝ, Finset.univ.sup (fun n => (s' n : EReal)) = M := by
    obtain ⟨M, h⟩ := top_real (κ := Fin 0) (fun x => x.elim0) s'
    exact ⟨M, by simpa [top] using h⟩
  have hL : 0 < ∑ n, Real.exp (s' n - M) := Finset.sum_pos (fun _ _ => Real.exp_pos _) Finset.univ_nonempty
  unfold late early
  simp only [hM, exp_sub_real, sum_coe, ← EReal.coe_mul, div_real _ _ hL]
  congr 1
  rw [Finset.sum_div]
  exact Finset.sum_congr rfl fun _ _ => by ring

/-- Context row `r`'s score against context row `n` in head `h`; a row holds its queries, then its keys, then its values. -/
def score (X : FVec Ideal S256x12288 .bf16) (h : Fin 32) (r n : Fin 256) : EReal :=
  (∑ d : Fin 128, X (ix2 r ⟨h.val * 128 + d.val, by omega⟩) * X (ix2 n ⟨4096 + (h.val * 128 + d.val), by omega⟩)) * scale

/-- The context's attention, the heads side by side. -/
def attended (X : FVec Ideal S256x12288 .bf16) : FVec Ideal S256x4096 .bf16 :=
  fun i => late (score X ⟨(i 1).val / 128, by have : (i 1).val < 4096 := (i 1).isLt; omega⟩ (i 0))
    (fun n => X (ix2 n ⟨8192 + (i 1).val, by have : (i 1).val < 4096 := (i 1).isLt; omega⟩))

/-- The product of the attended rows with the output projection. -/
def prod (X : FVec Ideal S256x4096 .bf16) (W : FVec Ideal S4096x4096 .bf16) : FVec Ideal S256x4096 .f32 :=
  fun i => ∑ k : Fin 4096, X (ix2 (i 0) k) * W (ix2 k (i 1))

theorem neg_inf : Ideal.ofBits .f32 4286578688#32 = (⊥ : EReal) := by
  simp [Ideal.ofBits, Ideal.ieee]

/-- What the body stores of a group's first head, at an element. -/
theorem stored (q k v : Vec Ideal S256x128 .bf16) (y) : k0_pay2 q k v y
    = late (fun n => (∑ d : Fin 128, q (ix2 (y 0) d) * k (ix2 n d)) * scale) (fun n => v (ix2 n (y 1))) := by
  obtain ⟨a, b, rfl⟩ : ∃ a b, y = ix2 a b := ⟨_, _, eq_ix2 y⟩
  pointwise [k0_pay2]
  simp only [neg_inf]
  rfl

/-- What the body stores of a group's second head, at an element. -/
theorem stored' (q k v : Vec Ideal S256x128 .bf16) (y) : k0_pay1 (k0_pay4 q k) (k0_pay5 q k v) y
    = late (fun n => (∑ d : Fin 128, q (ix2 (y 0) d) * k (ix2 n d)) * scale) (fun n => v (ix2 n (y 1))) := by
  obtain ⟨a, b, rfl⟩ : ∃ a b, y = ix2 a b := ⟨_, _, eq_ix2 y⟩
  pointwise [k0_pay1, k0_pay3, k0_pay4, k0_pay5]
  simp only [neg_inf]
  rfl

section Regions

variable (V : (c : Dev nD) → (b : Ref sig .tc) → Buf (Elt Ideal) ((c : Thread nD τ).loc b))

/-- The attention's block indices: the group's columns among the queries, the keys and the values. -/
theorem idx0 : ∀ t : Fin cfg0.N, win0_0.index t = ![0, t.val] ∧ win0_1.index t = ![0, 16 + t.val] ∧ win0_2.index t = ![0, 32 + t.val]
    ∧ win0_3.index t = ![0, t.val] :=
  (by decide +kernel : ∀ t : Fin grid0.N, _)

/-- The product's block indices: all rows, whole depth, column block. -/
theorem idx1 : ∀ t : Fin cfg1.N, win1_0.index t = ![0, 0] ∧ win1_1.index t = ![0, t.val] ∧ win1_2.index t = ![0, t.val] :=
  (by decide +kernel : ∀ t : Fin grid1.N, _)

/-- A block element is the attention at its place in the array. -/
theorem point0 (c : Dev nD) (t : Fin cfg0.N) (y) : out0_3 (iblk0 V c 0 t) (iblk0 V c 1 t) (iblk0 V c 2 t) y
    = attended (V c main_arg0) (((cfg0.win 3).blk t).view.emb y) := by
  unfold out0_3
  canon_tiles x h
  · rw [stored']
    unfold attended score
    refine congrArg₂ late (funext fun n => congrArg (· * scale) (Finset.sum_congr rfl fun d _ => congrArg₂ (· * ·) ?_ ?_)) (funext fun n => ?_)
    · pointwise; blk_point [iblk0, idx0 t]
    · pointwise; blk_point [iblk0, idx0 t]
    · pointwise; blk_point [iblk0, idx0 t]
  · rw [stored]
    unfold attended score
    refine congrArg₂ late (funext fun n => congrArg (· * scale) (Finset.sum_congr rfl fun d _ => congrArg₂ (· * ·) ?_ ?_)) (funext fun n => ?_)
    · pointwise; blk_point [iblk0, idx0 t]
    · pointwise; blk_point [iblk0, idx0 t]
    · pointwise; blk_point [iblk0, idx0 t]

/-- A product block element is the product at its place in the array. -/
theorem point1 (c : Dev nD) (t : Fin cfg1.N) (y) : k1_pay1 (iblk1 V c 0 t) (iblk1 V c 1 t) y
    = prod (V c main_v1) (V c main_v0) (((cfg1.win 2).blk t).view.emb y) := by
  pointwise [k1_pay1, prod]
  blk_point [iblk1, idx1 t]

/-- The attention, whole. -/
theorem final0 (c : Dev nD) : (dat0 V c).arrAt 3 cfg0.N = attended (V c main_arg0) := by
  refine (dat0 V c).arrAt_eq_of_covers 3 _ (by decide +kernel) fun t _ y => ?_
  blk_simp
  rw [after0_3]
  exact point0 V c t y

/-- The product, whole. -/
theorem final1 (c : Dev nD) : (dat1 V c).arrAt 2 cfg1.N = prod (V c main_v1) (V c main_v0) := by
  refine (dat1 V c).arrAt_eq_of_covers 2 _ (by decide +kernel) fun t _ y => ?_
  blk_simp
  rw [after1_2]; frame_out
  exact point1 V c t y

end Regions

variable (m : (ℓ : Loc nD τ sig) → Buf (Elt Ideal) ℓ) (ρ : Dev nD → PrngReg)

/-- What the two pipelines compute of their two arguments. -/
def result (X : FVec Ideal S256x12288 .bf16) (W : FVec Ideal S4096x4096 .bf16) : FVec Ideal S256x4096 .f32 := prod (attended X) W

/-- The product's left operand. -/
theorem v1_at (c : Dev nD) : W2 m ρ c (Proc.devRef .tc main_v1) = attended (m ((c : Thread nD τ).loc main_arg0)) := by
  refine (W2_arr m ρ c 3).trans ((final0 (V1 m ρ) c).trans ?_)
  show attended (W1 m ρ c (Proc.devRef .tc main_arg0)) = _
  rw [W1_of m ρ c main_arg0 (by decide)]

/-- The product's right operand. -/
theorem v0_at (c : Dev nD) : W2 m ρ c (Proc.devRef .tc main_v0) = (m ((c : Thread nD τ).loc main_arg1) : FVec Ideal S4096x4096 .f32) := by
  rw [W2_of m ρ c main_v0 (by decide)]
  rfl

/-- The result array after the second pipeline. -/
theorem result_at (c : Dev nD) : W3 m ρ c (Proc.devRef .tc main_v2)
    = result (m ((c : Thread nD τ).loc main_arg0)) (m ((c : Thread nD τ).loc main_arg1) : FVec Ideal S4096x4096 .f32) := by
  refine (W3_arr m ρ c 2).trans ((final1 (V2 m ρ) c).trans ?_)
  show prod (W2 m ρ c (Proc.devRef .tc main_v1)) (W2 m ρ c (Proc.devRef .tc main_v0)) = _
  rw [v1_at, v0_at]
  rfl

set_option backward.isDefEq.respectTransparency.types false in
/-- Every run of the kernel ends with the result and with its arguments as they were. -/
theorem run : θ_run defs (onTc (τ := τ) (main (F := Ideal))) ⟨m, fun _ => 0, ρ⟩ (fun r => ∀ c : Dev nD,
      r.2.mem ((c.tc : Thread nD τ).loc main_v2)
        = result (m ((c.tc : Thread nD τ).loc main_arg0)) (m ((c.tc : Thread nD τ).loc main_arg1) : FVec Ideal S4096x4096 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => (fun c =>
      ⟨(h c _ (mem_uc main_v2 (by decide))).trans (result_at m ρ c),
       (h c _ (mem_uc main_arg0 (by decide))).trans (W3_main_arg0 m ρ c),
       (h c _ (mem_uc main_arg1 (by decide))).trans (W3_main_arg1 m ρ c)⟩))

section Reference

open Cert.ReferenceContextIdeal.Read

variable (X : FVec Ideal S256x12288 .bf16)

/-- The reference's queries. -/
theorem ref_query (r : Fin 256) (h : Fin 32) (d : Fin 128) : val_main_v3 (F := Ideal) X (ix3 r h d) = X (ix2 r ⟨h.val * 128 + d.val, by omega⟩) := by
  rw [val_main_v3_apply, val_main_v2_apply, val_main_v1_apply, val_main_v0_apply]
  show X _ = X _
  refine congrArg X (funext fun b => Fin.ext ?_)
  match b with
  | ⟨0, _⟩ => dsimp [ix2, ix3]; omega
  | ⟨1, _⟩ => dsimp [ix2, ix3]; omega

/-- The reference's keys. -/
theorem ref_key (r : Fin 256) (h : Fin 32) (d : Fin 128) : val_main_v5 (F := Ideal) X (ix3 r h d) = X (ix2 r ⟨4096 + (h.val * 128 + d.val), by omega⟩) := by
  rw [val_main_v5_apply, val_main_v4_apply, val_main_v1_apply, val_main_v0_apply]
  show X _ = X _
  refine congrArg X (funext fun b => Fin.ext ?_)
  match b with
  | ⟨0, _⟩ => dsimp [ix2, ix3]; omega
  | ⟨1, _⟩ => dsimp [ix2, ix3]; omega

/-- The reference's values. -/
theorem ref_value (r : Fin 256) (h : Fin 32) (d : Fin 128) : val_main_v7 (F := Ideal) X (ix3 r h d) = X (ix2 r ⟨8192 + (h.val * 128 + d.val), by omega⟩) := by
  rw [val_main_v7_apply, val_main_v6_apply, val_main_v1_apply, val_main_v0_apply]
  show X _ = X _
  refine congrArg X (funext fun b => Fin.ext ?_)
  match b with
  | ⟨0, _⟩ => dsimp [ix2, ix3]; omega
  | ⟨1, _⟩ => dsimp [ix2, ix3]; omega

/-- The reference's scores. -/
theorem ref_score (h : Fin 32) (r n : Fin 256) : val_main_v10 (F := Ideal) X (ix3 h r n) = score X h r n := by
  rw [val_main_v10_apply, val_main_v9_apply, val_main_cst_apply, val_main_v8_apply]
  refine congrArg (fun z : EReal => z * scale) (Finset.sum_congr rfl fun d _ => congrArg₂ (fun p q : EReal => p * q) ?_ ?_)
  · refine Eq.trans (congrArg (val_main_v3 (F := Ideal) X) (a₂ := ix3 r h d) ?_) (ref_query X r h d)
    exact funext fun b => match b with | ⟨0, _⟩ => rfl | ⟨1, _⟩ => rfl | ⟨2, _⟩ => rfl
  · refine Eq.trans (congrArg (val_main_v5 (F := Ideal) X) (a₂ := ix3 n h d) ?_) (ref_key X n h d)
    exact funext fun b => match b with | ⟨0, _⟩ => rfl | ⟨1, _⟩ => rfl | ⟨2, _⟩ => rfl

/-- The reference's largest score of a row. -/
theorem ref_top (h : Fin 32) (r : Fin 256) : val_main_v13 (F := Ideal) X (ix2 h r) = Finset.univ.sup (score X h r) := by
  rw [val_main_v13_apply, val_main_v12_apply, val_main_cst_1_apply]
  unfold val_main_v11
  rw [Host.reduce_eq_fold_single (s := Cert.ReferenceContextIdeal.S32x256x256) (t := Cert.ReferenceContextIdeal.S32x256) (a := (2 : Fin 3)) _ _ _
    Cert.ReferenceContextIdeal.Gen.reducesTo_S32x256x256_S32x256_d2 (by decide) Cert.ReferenceContextIdeal.Gen.h_S_]
  show max (Ideal.ofBits .f32 0xFF800000#32) (Finset.fold max (Ideal.ofBits .f32 0xFF800000#32) _ _) = _
  rw [neg_inf, bot_sup_eq]
  show Finset.univ.sup (fun k : Fin 256 => _) = _
  refine congrArg (Finset.sup _) (funext fun n => ?_)
  refine Eq.trans ?_ (ref_score X h r n)
  exact congrArg (val_main_v10 (F := Ideal) X) (funext fun b => match b with | ⟨0, _⟩ => rfl | ⟨1, _⟩ => rfl | ⟨2, _⟩ => rfl)

/-- The reference's weights before the division. -/
theorem ref_weight (h : Fin 32) (r n : Fin 256) :
    val_main_v17 (F := Ideal) X (ix3 h r n) = Ideal.exp (score X h r n - Finset.univ.sup (score X h r)) := by
  rw [val_main_v17_apply, val_main_v16_apply, val_main_v15_apply, val_main_v14_apply, ref_score]
  have e : idx_main_v14 (idx_main_v15 (ix3 h r n)) = ix2 h r := funext fun b => match b with | ⟨0, _⟩ => rfl | ⟨1, _⟩ => rfl
  rw [e, ref_top]
  rfl

/-- The reference's sum of a row's weights. -/
theorem ref_mass (h : Fin 32) (r n : Fin 256) :
    val_main_v20 (F := Ideal) X (ix3 h r n) = ∑ n, Ideal.exp (score X h r n - Finset.univ.sup (score X h r)) := by
  rw [val_main_v20_apply, val_main_v19_apply, val_main_v18_apply]
  have z : val_main_cst_2 (F := Ideal) (Shape.Idx.first Cert.ReferenceContextIdeal.Gen.h_S_) = (0 : EReal) := Ideal.ofBits_zero .f32
  rw [z, zero_add]
  refine Finset.sum_congr rfl fun k _ => ?_
  refine Eq.trans (congrArg (val_main_v17 (F := Ideal) X) (a₂ := ix3 h r k) ?_) (ref_weight X h r k)
  exact funext fun b => match b with | ⟨0, _⟩ => rfl | ⟨1, _⟩ => rfl | ⟨2, _⟩ => rfl

/-- The reference's attention, the weights divided first. -/
theorem ref_attended (r : Fin 256) (h : Fin 32) (d : Fin 128) :
    val_main_v23 (F := Ideal) X (ix3 r h d) = early (score X h r) (fun n => X (ix2 n ⟨8192 + (h.val * 128 + d.val), by omega⟩)) := by
  rw [val_main_v23_apply, val_main_v22_apply]
  unfold early
  refine Finset.sum_congr rfl fun n _ => congrArg₂ (fun p q : EReal => p * q) ?_ ?_
  · refine Eq.trans (congrArg (val_main_v7 (F := Ideal) X) (a₂ := ix3 n h d) ?_) (ref_value X n h d)
    exact funext fun b => match b with | ⟨0, _⟩ => rfl | ⟨1, _⟩ => rfl | ⟨2, _⟩ => rfl
  · refine Eq.trans (congrArg (val_main_v21 (F := Ideal) X) (a₂ := ix3 h r n) ?_) ?_
    · exact funext fun b => match b with | ⟨0, _⟩ => rfl | ⟨1, _⟩ => rfl | ⟨2, _⟩ => rfl
    · rw [val_main_v21_apply, ref_weight, ref_mass]
      rfl

/-- The scores of real rows are reals. -/
theorem score_real (hX : ∀ i, IsReal (X i)) (h : Fin 32) (r n : Fin 256) : IsReal (score X h r n) :=
  isReal_mul (isReal_sum fun d => isReal_mul (hX _) (hX _)) isReal_scale

/-- For real rows the reference's attention is the kernel's. -/
theorem ref_rows (hX : ∀ i, IsReal (X i)) (r : Fin 256) (k : Fin 4096) : val_main_v24 (F := Ideal) X (ix2 r k) = attended X (ix2 r k) := by
  rw [val_main_v24_apply]
  have e : idx_main_v24 (ix2 r k) = ix3 r (⟨k.val / 128, by omega⟩ : Fin 32) (⟨k.val % 128, by omega⟩ : Fin 128) := by
    funext b
    refine Fin.ext ?_
    match b with
    | ⟨0, _⟩ => dsimp [ix2, ix3]; omega
    | ⟨1, _⟩ => dsimp [ix2, ix3]; omega
    | ⟨2, _⟩ => dsimp [ix2, ix3]; omega
  rw [e, ref_attended, ← late_eq_early _ _ (score_real X hX _ _) (fun n => hX _)]
  unfold attended
  refine congrArg (late _) (funext fun n => congrArg X (funext fun b => Fin.ext ?_))
  match b with
  | ⟨0, _⟩ => rfl
  | ⟨1, _⟩ => show 8192 + (k.val / 128 * 128 + k.val % 128) = 8192 + k.val; omega

/-- For real rows the reference's result is the kernel's. -/
theorem ref_result (W : FVec Ideal S4096x4096 .f32) (hX : ∀ i, IsReal (X i)) : val_main_v25 (F := Ideal) X W = result X W := by
  funext i
  obtain ⟨r, n, rfl⟩ : ∃ r n, i = ix2 r n := ⟨_, _, eq_ix2 i⟩
  rw [val_main_v25_apply]
  unfold result prod
  refine Finset.sum_congr rfl fun k _ => congrArg₂ (fun p q : EReal => p * q) ?_ ?_
  · refine Eq.trans (congrArg (val_main_v24 (F := Ideal) X) (a₂ := ix2 r k) ?_) (ref_rows X hX r k)
    exact funext fun b => match b with | ⟨0, _⟩ => rfl | ⟨1, _⟩ => rfl
  · exact congrArg W (funext fun b => match b with | ⟨0, _⟩ => rfl | ⟨1, _⟩ => rfl)

/-- Where the precondition holds, the results of equal arguments are equal. -/
theorem results {X X' : FVec Ideal S256x12288 .bf16} {W W' : FVec Ideal S4096x4096 .f32} (x : X' = X) (w : W' = W)
    (p : Cert.Pre_finite_context.fn (F := Ideal) X W = fun _ => 1#1) : val_main_v25 (F := Ideal) X' W' = result X W := by
  subst x w
  exact ref_result _ _ fun i => Cert.Finite.isReal_of_bits Cert.Finite.bf16_inf Cert.Finite.bf16_neg_inf (congrFun p i)

end Reference

/-- The kernel and the reference end with one array. -/
theorem value : Cert.algebraic_KernelContextIdeal_ReferenceContextIdeal_pre_finite_context := by
  intro m g m' g' hpre hagree
  exact ⟨_, run m g, (θ_run Cert.ReferenceContextIdeal.defs _ _).mono (fun r h c =>
    ⟨(h c).1.trans ((Cert.ReferenceContextIdeal.Read.val_main_v25_eq (F := Ideal) _ _).trans
      (results (hagree c).1 (hagree c).2 (hpre c))), (h c).2⟩)
    (Cert.ReferenceContextIdeal.Value.run (F := Ideal) m' g')⟩

/-- The reference runs, keeps its arguments and has no semaphore. -/
theorem frame_reference : Cert.quiescent_ReferenceContextIdeal := by
  intro m g _
  exact (θ_run Cert.ReferenceContextIdeal.defs _ _).mono (fun r h => ⟨fun c => (h c).2, sem_eq_zero_of_no_sems (by decide) r.2⟩)
    (Cert.ReferenceContextIdeal.Value.run (F := Ideal) m g)

end Cert.KernelContextIdeal.Value

end
-- ==== Proof.lean ====
/-  The certificate: the two attention mixers (the latent rows' and the context rows'), the recurrent mixer's projections, the
    queries, the modulation and the layer norms with the rows they hand on. The frames come from the generated frame proofs,
    the named mask from its rule, and the latent mixer's value from the kernel's run (Proof/WholeRun.lean), the reference's
    run and the equality of the two results on real arguments (Proof/Joined.lean, Proof/Finite.lean); every other value
    has a module of its own. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelQuery
public import proofs.«01_k».proof.Proof.Gen.KernelQuery.Skeleton
public import proofs.«01_k».proof.Proof.Gen.KernelQuery.Launch
public import proofs.«01_k».proof.Proof.Gen.KernelQuery.Points
public import proofs.«01_k».proof.Proof.Gen.KernelQuery.Frame
public import proofs.«01_k».proof.Proof.Gen.KernelQueryIdeal
public import proofs.«01_k».proof.Proof.Gen.KernelQueryIdeal.Skeleton
public import proofs.«01_k».proof.Proof.Gen.KernelQueryIdeal.Launch
public import proofs.«01_k».proof.Proof.Gen.KernelQueryIdeal.Points
public import proofs.«01_k».proof.Proof.Gen.KernelQueryIdeal.Frame
public import proofs.«01_k».proof.Proof.Gen.ReferenceQueryIdeal
public import proofs.«01_k».proof.Proof.Gen.ReferenceQueryIdeal.Run
public import proofs.«01_k».proof.Proof.Gen.ReferenceQueryIdeal.Read
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.ReferenceNormIdeal
public import proofs.«01_k».proof.Proof.Gen.ReferenceNormIdeal.Run
public import proofs.«01_k».proof.Proof.Gen.ReferenceNormIdeal.Read
public import proofs.«01_k».proof.Proof.Gen.KernelNext
public import proofs.«01_k».proof.Proof.Gen.KernelNext.Skeleton
public import proofs.«01_k».proof.Proof.Gen.KernelNext.Launch
public import proofs.«01_k».proof.Proof.Gen.KernelNext.Points
public import proofs.«01_k».proof.Proof.Gen.KernelNext.Frame
public import proofs.«01_k».proof.Proof.Gen.KernelNextIdeal
public import proofs.«01_k».proof.Proof.Gen.KernelNextIdeal.Skeleton
public import proofs.«01_k».proof.Proof.Gen.KernelNextIdeal.Launch
public import proofs.«01_k».proof.Proof.Gen.KernelNextIdeal.Points
public import proofs.«01_k».proof.Proof.Gen.KernelNextIdeal.Frame
public import proofs.«01_k».proof.Proof.Gen.ReferenceNextIdeal
public import proofs.«01_k».proof.Proof.Gen.ReferenceNextIdeal.Run
public import proofs.«01_k».proof.Proof.Gen.ReferenceNextIdeal.Read
public import proofs.«01_k».proof.Proof.Gen.KernelRows
public import proofs.«01_k».proof.Proof.Gen.KernelRows.Skeleton
public import proofs.«01_k».proof.Proof.Gen.KernelRows.Launch
public import proofs.«01_k».proof.Proof.Gen.KernelRows.Points
public import proofs.«01_k».proof.Proof.Gen.KernelRows.Frame
public import proofs.«01_k».proof.Proof.Gen.KernelRowsIdeal
public import proofs.«01_k».proof.Proof.Gen.KernelRowsIdeal.Skeleton
public import proofs.«01_k».proof.Proof.Gen.KernelRowsIdeal.Launch
public import proofs.«01_k».proof.Proof.Gen.KernelRowsIdeal.Points
public import proofs.«01_k».proof.Proof.Gen.KernelRowsIdeal.Frame
public import proofs.«01_k».proof.Proof.Gen.ReferenceRowsIdeal
public import proofs.«01_k».proof.Proof.Gen.ReferenceRowsIdeal.Run
public import proofs.«01_k».proof.Proof.Gen.ReferenceRowsIdeal.Read
public import proofs.«01_k».proof.Proof.Gen.KernelCond
public import proofs.«01_k».proof.Proof.Gen.KernelCond.Skeleton
public import proofs.«01_k».proof.Proof.Gen.KernelCond.Launch
public import proofs.«01_k».proof.Proof.Gen.KernelCond.Points
public import proofs.«01_k».proof.Proof.Gen.KernelCond.Frame
public import proofs.«01_k».proof.Proof.Gen.KernelCondIdeal
public import proofs.«01_k».proof.Proof.Gen.KernelCondIdeal.Skeleton
public import proofs.«01_k».proof.Proof.Gen.KernelCondIdeal.Launch
public import proofs.«01_k».proof.Proof.Gen.KernelCondIdeal.Points
public import proofs.«01_k».proof.Proof.Gen.KernelCondIdeal.Frame
public import proofs.«01_k».proof.Proof.Gen.ReferenceCondIdeal
public import proofs.«01_k».proof.Proof.Gen.ReferenceCondIdeal.Run
public import proofs.«01_k».proof.Proof.Gen.ReferenceCondIdeal.Read
public import proofs.«01_k».proof.Proof.Gen.KernelContext
public import proofs.«01_k».proof.Proof.Gen.KernelContext.Skeleton
public import proofs.«01_k».proof.Proof.Gen.KernelContext.Launch
public import proofs.«01_k».proof.Proof.Gen.KernelContext.Points
public import proofs.«01_k».proof.Proof.Gen.KernelContext.Frame
public import proofs.«01_k».proof.Proof.Gen.KernelContextIdeal
public import proofs.«01_k».proof.Proof.Gen.KernelContextIdeal.Skeleton
public import proofs.«01_k».proof.Proof.Gen.KernelContextIdeal.Launch
public import proofs.«01_k».proof.Proof.Gen.KernelContextIdeal.Points
public import proofs.«01_k».proof.Proof.Gen.KernelContextIdeal.Frame
public import proofs.«01_k».proof.Proof.Gen.ReferenceContextIdeal
public import proofs.«01_k».proof.Proof.Gen.ReferenceContextIdeal.Run
public import proofs.«01_k».proof.Proof.Gen.ReferenceContextIdeal.Read
public import proofs.«01_k».proof.Proof.Gen.Pre_finite_context
public import proofs.«01_k».proof.Proof.Finite
public import proofs.«01_k».proof.Proof.In
public import proofs.«01_k».proof.Proof.Out
public import proofs.«01_k».proof.Proof.Query
public import proofs.«01_k».proof.Proof.Norm
public import proofs.«01_k».proof.Proof.Next
public import proofs.«01_k».proof.Proof.Rows
public import proofs.«01_k».proof.Proof.Cond
public import proofs.«01_k».proof.Proof.Context
public import Idealize.ShloMosaic.Adequacy
public import Idealize.ShloMosaic.Init

@[expose] public section

noncomputable section

namespace Cert.Proof

open Idealize.ShloMosaic Idealize.SL.Sem

/-- The reference runs, keeps its arguments and has no semaphore. -/
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- The reference's result as a function of its five arguments. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v132)
          = Cert.ReferenceIdeal.Read.val_main_v132 (F := Ideal) (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono (fun r h c =>
    ⟨(h c).1.trans (Cert.ReferenceIdeal.Read.val_main_v132_eq (F := Ideal) (StableHlo.launchContents m c)), (h c).2⟩)
    (Cert.ReferenceIdeal.Value.run (F := Ideal) m g)

open Cert.Pre_finite in
/-- The results of equal real arguments are equal. -/
theorem results {x0 y0 : FVec Ideal S16384x4096 .bf16} {x1 y1 : FVec Ideal S256x4096 .bf16} {x2 y2 : FVec Ideal S4096x12288 .f32}
    {x3 y3 : FVec Ideal S4096x4096 .f32} {x4 y4 : FVec Ideal S32x15x31 .f32} (a0 : y0 = x0) (a1 : y1 = x1) (a2 : y2 = x2) (a3 : y3 = x3) (a4 : y4 = x4)
    (p : (fn (F := Ideal) x0 x1 x2 x3 x4).1 = (fun _ => 1#1) ∧ (fn (F := Ideal) x0 x1 x2 x3 x4).2.1 = (fun _ => 1#1)
      ∧ (fn (F := Ideal) x0 x1 x2 x3 x4).2.2.1 = (fun _ => 1#1) ∧ (fn (F := Ideal) x0 x1 x2 x3 x4).2.2.2 = fun _ => 1#1) :
    Cert.ReferenceIdeal.Read.val_main_v132 (F := Ideal) y0 y1 y2 y3 y4 = Cert.KernelIdeal.Whole.result x0 x1 x2 x3 x4 := by
  subst a0 a1 a2 a3 a4
  exact (Cert.Joined.result_eq _ _ _ _ _ (Cert.Finite.first _ _ _ _ _ p.1) (Cert.Finite.second _ _ _ _ _ p.2.1)
    (Cert.Finite.third _ _ _ _ _ p.2.2.1) (Cert.Finite.fourth _ _ _ _ _ p.2.2.2)).symm

/-- The kernel and the reference end with one array: the attention of the latent tokens, projected. -/
theorem value : Cert.algebraic_KernelIdeal_ReferenceIdeal_pre_finite := by
  intro m g m' g' hpre hagree
  exact ⟨_, Cert.KernelIdeal.Whole.run m g, (θ_run Cert.ReferenceIdeal.defs _ _).mono (fun r h c =>
    ⟨(h c).1.trans (results (hagree c).1 (hagree c).2.1 (hagree c).2.2.1 (hagree c).2.2.2.1 (hagree c).2.2.2.2 (hpre c)), (h c).2⟩)
    (run_reference m' g')⟩

theorem claim : Cert.Claim :=
  ⟨Cert.Kernel.Gen.facts, Cert.KernelIdeal.Gen.facts, Cert.ReferenceIdeal.Gen.facts,
    Cert.KernelIn.Gen.facts, Cert.KernelInIdeal.Gen.facts, Cert.ReferenceInIdeal.Gen.facts,
    Cert.KernelOut.Gen.facts, Cert.KernelOutIdeal.Gen.facts, Cert.ReferenceOutIdeal.Gen.facts,
    Cert.KernelQuery.Gen.facts, Cert.KernelQueryIdeal.Gen.facts, Cert.ReferenceQueryIdeal.Gen.facts,
    Cert.KernelNorm.Gen.facts, Cert.KernelNormIdeal.Gen.facts, Cert.ReferenceNormIdeal.Gen.facts,
    Cert.KernelNext.Gen.facts, Cert.KernelNextIdeal.Gen.facts, Cert.ReferenceNextIdeal.Gen.facts,
    Cert.KernelRows.Gen.facts, Cert.KernelRowsIdeal.Gen.facts, Cert.ReferenceRowsIdeal.Gen.facts,
    Cert.KernelCond.Gen.facts, Cert.KernelCondIdeal.Gen.facts, Cert.ReferenceCondIdeal.Gen.facts,
    Cert.KernelContext.Gen.facts, Cert.KernelContextIdeal.Gen.facts, Cert.ReferenceContextIdeal.Gen.facts,
    Cert.Pre_finite.Gen.facts, Cert.Pre_finite_context.Gen.facts,
    fun m g _ => Cert.Kernel.Gen.frame m g, fun m g _ => Cert.KernelIdeal.Gen.frame m g, fun m g _ => Cert.KernelIdeal.Gen.frame m g,
    frame_reference, fun m g _ => frame_reference m g trivial,
    fun m g _ => Cert.KernelIn.Gen.frame m g, fun m g _ => Cert.KernelInIdeal.Gen.frame m g, Cert.KernelInIdeal.Value.frame_reference,
    fun m g _ => Cert.KernelOut.Gen.frame m g, fun m g _ => Cert.KernelOutIdeal.Gen.frame m g, Cert.KernelOutIdeal.Value.frame_reference,
    fun m g _ => Cert.KernelQuery.Gen.frame m g, fun m g _ => Cert.KernelQueryIdeal.Gen.frame m g, Cert.KernelQueryIdeal.Value.frame_reference,
    fun m g _ => Cert.KernelNorm.Gen.frame m g, fun m g _ => Cert.KernelNormIdeal.Gen.frame m g, Cert.KernelNormIdeal.Value.frame_reference,
    fun m g _ => Cert.KernelNext.Gen.frame m g, fun m g _ => Cert.KernelNextIdeal.Gen.frame m g, Cert.KernelNextIdeal.Value.frame_reference,
    fun m g _ => Cert.KernelRows.Gen.frame m g, fun m g _ => Cert.KernelRowsIdeal.Gen.frame m g, Cert.KernelRowsIdeal.Value.frame_reference,
    fun m g _ => Cert.KernelCond.Gen.frame m g, fun m g _ => Cert.KernelCondIdeal.Gen.frame m g, Cert.KernelCondIdeal.Value.frame_reference,
    fun m g _ => Cert.KernelContext.Gen.frame m g, fun m g _ => Cert.KernelContextIdeal.Gen.frame m g, fun m g _ => Cert.KernelContextIdeal.Gen.frame m g,
    Cert.KernelContextIdeal.Value.frame_reference, fun m g _ => Cert.KernelContextIdeal.Value.frame_reference m g trivial,
    IdealRules.named_const.statement Cert.KernelIdeal.κ "mask" .f32 0xF149F2CA#32 ⊥ rfl,
    value,
    trivial, Cert.KernelInIdeal.Value.value,
    trivial, Cert.KernelOutIdeal.Value.value,
    trivial, Cert.KernelQueryIdeal.Value.value,
    trivial, Cert.KernelNormIdeal.Value.value,
    trivial, Cert.KernelNextIdeal.Value.value,
    trivial, Cert.KernelRowsIdeal.Value.value,
    trivial, Cert.KernelCondIdeal.Value.value,
    trivial, Cert.KernelContextIdeal.Value.value⟩

end Cert.Proof

end
